-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6144x16384 : Shape := ⟨3, ![3, 6144, 16384]⟩
abbrev S16384x13312 : Shape := ⟨2, ![16384, 13312]⟩
abbrev S13312 : Shape := ⟨1, ![13312]⟩
abbrev S18432x16384 : Shape := ⟨2, ![18432, 16384]⟩
abbrev S18432x1 : Shape := ⟨2, ![18432, 1]⟩
abbrev S256x16384 : Shape := ⟨2, ![256, 16384]⟩
abbrev S256x1 : Shape := ⟨2, ![256, 1]⟩
abbrev S256 : Shape := ⟨1, ![256]⟩
abbrev S1x256 : Shape := ⟨2, ![1, 256]⟩
abbrev S256x256 : Shape := ⟨2, ![256, 256]⟩
abbrev S1x13312 : Shape := ⟨2, ![1, 13312]⟩
abbrev S18432x6656 : Shape := ⟨2, ![18432, 6656]⟩
abbrev S512x16384 : Shape := ⟨2, ![512, 16384]⟩
abbrev S512x1 : Shape := ⟨2, ![512, 1]⟩
abbrev S16384x256 : Shape := ⟨2, ![16384, 256]⟩
abbrev S512x6656 : Shape := ⟨2, ![512, 6656]⟩
abbrev S26x512x256 : Shape := ⟨3, ![26, 512, 256]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩
abbrev S3x6144x1 : Shape := ⟨3, ![3, 6144, 1]⟩
abbrev S3x6144x6656 : Shape := ⟨3, ![3, 6144, 6656]⟩

abbrev nBuf : Space → Nat
  | .hbm => 13
  | .vmem => 24
  | .smem => 0
  | _ => 0

abbrev bufTy : (tb : Table) → Fin (tcTables nBuf tb) → BufTy
  | .hbm, ⟨0, _⟩ => ⟨S3x6144x16384, .bf16⟩
  | .hbm, ⟨1, _⟩ => ⟨S16384x13312, .fp8e4m3⟩
  | .hbm, ⟨2, _⟩ => ⟨S13312, .f32⟩
  | .hbm, ⟨3, _⟩ => ⟨S18432x16384, .bf16⟩
  | .hbm, ⟨4, _⟩ => ⟨S18432x16384, .fp8e4m3⟩
  | .hbm, ⟨5, _⟩ => ⟨S18432x1, .f32⟩
  | .hbm, ⟨6, _⟩ => ⟨S1x13312, .f32⟩
  | .hbm, ⟨7, _⟩ => ⟨S18432x1, .f32⟩
  | .hbm, ⟨8, _⟩ => ⟨S18432x6656, .fp8e4m3⟩
  | .hbm, ⟨9, _⟩ => ⟨S3x6144x1, .f32⟩
  | .hbm, ⟨10, _⟩ => ⟨S3x6144x6656, .fp8e4m3⟩
  | .hbm, ⟨11, _⟩ => ⟨S3x6144x16384, .fp8e4m3⟩
  | .hbm, ⟨12, _⟩ => ⟨S3x6144x1, .f32⟩
  | .local _ .vmem, ⟨0, _⟩ => ⟨S256x16384, .bf16⟩
  | .local _ .vmem, ⟨1, _⟩ => ⟨S256x16384, .bf16⟩
  | .local _ .vmem, ⟨2, _⟩ => ⟨S256x16384, .fp8e4m3⟩
  | .local _ .vmem, ⟨3, _⟩ => ⟨S256x16384, .fp8e4m3⟩
  | .local _ .vmem, ⟨4, _⟩ => ⟨S256x1, .f32⟩
  | .local _ .vmem, ⟨5, _⟩ => ⟨S256x1, .f32⟩
  | .local _ .vmem, ⟨6, _⟩ => ⟨S512x16384, .fp8e4m3⟩
  | .local _ .vmem, ⟨7, _⟩ => ⟨S512x16384, .fp8e4m3⟩
  | .local _ .vmem, ⟨8, _⟩ => ⟨S512x1, .f32⟩
  | .local _ .vmem, ⟨9, _⟩ => ⟨S512x1, .f32⟩
  | .local _ .vmem, ⟨10, _⟩ => ⟨S16384x256, .fp8e4m3⟩
  | .local _ .vmem, ⟨11, _⟩ => ⟨S16384x256, .fp8e4m3⟩
  | .local _ .vmem, ⟨12, _⟩ => ⟨S16384x256, .fp8e4m3⟩
  | .local _ .vmem, ⟨13, _⟩ => ⟨S16384x256, .fp8e4m3⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x1, .f32⟩
  | .local _ .vmem, ⟨19, _⟩ => ⟨S512x1, .f32⟩
  | .local _ .vmem, ⟨20, _⟩ => ⟨S512x6656, .fp8e4m3⟩
  | .local _ .vmem, ⟨21, _⟩ => ⟨S512x6656, .fp8e4m3⟩
  | .local _ .vmem, ⟨22, _⟩ => ⟨S26x512x256, .f32⟩
  | .local _ .vmem, ⟨23, _⟩ => ⟨S512x128, .f32⟩
  | _, _ => ⟨S3x6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![36, 26], ![false, false]⟩

def k1_off1 (i : grid1.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k1_cond3 (i : grid1.Coords) : BitVec 1 :=
  let arg1 : BitVec 32 := BitVec.ofNat 32 (i 1).val
  let c25_i32 : BitVec 32 := 25#32
  let v38 : BitVec 1 := Scalar.cmpi .eq arg1 c25_i32
  let v39 : BitVec 32 := Scalar.extui v38
  let c0_i32_17 : BitVec 32 := 0#32
  let v40 : BitVec 1 := Scalar.cmpi .ne v39 c0_i32_17
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x16384 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16384x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S16384x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x6656 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S3x6144x16384 : Shape := ⟨3, ![3, 6144, 16384]⟩
abbrev S16384x13312 : Shape := ⟨2, ![16384, 13312]⟩
abbrev S13312 : Shape := ⟨1, ![13312]⟩
abbrev S18432x16384 : Shape := ⟨2, ![18432, 16384]⟩
abbrev S1x13312 : Shape := ⟨2, ![1, 13312]⟩
abbrev S18432x1 : Shape := ⟨2, ![18432, 1]⟩
abbrev S18432x6656 : Shape := ⟨2, ![18432, 6656]⟩
abbrev S18432 : Shape := ⟨1, ![18432]⟩
abbrev S18432x13312 : Shape := ⟨2, ![18432, 13312]⟩
abbrev S3x6144x1 : Shape := ⟨3, ![3, 6144, 1]⟩
abbrev S3x6144x6656 : Shape := ⟨3, ![3, 6144, 6656]⟩

abbrev nBuf : Space → Nat
  | .hbm => 13
  | .vmem => 7
  | .smem => 0
  | _ => 0

abbrev bufTy : (tb : Table) → Fin (tcTables nBuf tb) → BufTy
  | .hbm, ⟨0, _⟩ => ⟨S3x6144x16384, .bf16⟩
  | .hbm, ⟨1, _⟩ => ⟨S16384x13312, .fp8e4m3⟩
  | .hbm, ⟨2, _⟩ => ⟨S13312, .f32⟩
  | .hbm, ⟨3, _⟩ => ⟨S18432x16384, .bf16⟩
  | .hbm, ⟨4, _⟩ => ⟨S1x13312, .f32⟩
  | .hbm, ⟨5, _⟩ => ⟨S18432x1, .f32⟩
  | .hbm, ⟨6, _⟩ => ⟨S18432x6656, .fp8e4m3⟩
  | .hbm, ⟨7, _⟩ => ⟨S18432x16384, .fp8e4m3⟩
  | .hbm, ⟨8, _⟩ => ⟨S18432x1, .f32⟩
  | .hbm, ⟨9, _⟩ => ⟨S3x6144x1, .f32⟩
  | .hbm, ⟨10, _⟩ => ⟨S3x6144x6656, .fp8e4m3⟩
  | .hbm, ⟨11, _⟩ => ⟨S3x6144x16384, .fp8e4m3⟩
  | .hbm, ⟨12, _⟩ => ⟨S3x6144x1, .f32⟩
  | .local _ .vmem, ⟨0, _⟩ => ⟨S18432x16384, .bf16⟩
  | .local _ .vmem, ⟨1, _⟩ => ⟨S16384x13312, .fp8e4m3⟩
  | .local _ .vmem, ⟨2, _⟩ => ⟨S1x13312, .f32⟩
  | .local _ .vmem, ⟨3, _⟩ => ⟨S18432x1, .f32⟩
  | .local _ .vmem, ⟨4, _⟩ => ⟨S18432x6656, .fp8e4m3⟩
  | .local _ .vmem, ⟨5, _⟩ => ⟨S18432x16384, .fp8e4m3⟩
  | .local _ .vmem, ⟨6, _⟩ => ⟨S18432x1, .f32⟩
  | _, _ => ⟨S3x6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S18432x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x13312 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x13312 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x6656 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x16384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.K.Base.lean ====
/- The two kernel calls' input blocks, and everything about the first call (the quantiser): its body's result and its proof data. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x16384 := Rect.unit (s := S256x16384) ![0, 0] S256x16384.size inb_S256x16384_S256x16384_0_0
abbrev r0_1 : Rect S256x1 := Rect.unit (s := S256x1) ![0, 0] S256x1.size inb_S256x1_S256x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S256x16384 .bf16) : Vec F S256x16384 .fp8e4m3 :=
  View.canon [⟨r0_0, k0_pay2 (k0_pay3 (View.ld x0 r0_0)) (k0_pay4 (View.ld x0 r0_0))⟩]

/-- Its stores tile the buffer (checked by evaluation), so they cover it. -/
theorem cover0_1 (p0 : Vec F S256x16384 .fp8e4m3) (y : S256x16384.Idx) :
    ∃ pc ∈ ([⟨r0_0, p0⟩] : List (View.Piece (Elt F) S256x16384 .fp8e4m3)), y ∈ pc.1.set :=
  View.cover_of_tiled [⟨r0_0, p0⟩] S256x16384.size (by rfl) y

/-- Window 2's staging buffer after the body, from the input windows' blocks: its 1 store as pieces, LAST
    FIRST (Lib/Pipeline/FrameBody.lean `View.canon`; the payloads are the skeleton's). -/
def out0_2 (x0 : Vec F S256x16384 .bf16) : Vec F S256x1 .f32 :=
  View.canon [⟨r0_1, k0_pay1 (F := F) (k0_pay5 (View.ld x0 r0_0))⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x16384 .bf16) (harg1 : arg1.IsWhole) (arg2 : Memref sig .tc .vmem S256x16384 .fp8e4m3) (harg2 : arg2.IsWhole) (arg3 : Memref sig .tc .vmem S256x1 .f32) (harg3 : arg3.IsWhole)
    (x0 : Vec F S256x16384 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_swiglu_fp8` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Run

end
-- ==== Proof.K.Cond.lean ====
/- The second call's three branch conditions in closed form over the grid points: the first column block of a row block, any later one, the last one. -/
module

public import proofs.«01_k».proof.Proof.K.Base

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 26) — by arithmetic of the point. -/
theorem hcond1_0 : ∀ t : Fin cfg1.N, cond1_0 (grid1.coords t) ↔ t.val % 26 = 0 :=
  (fun t => by
    have ht : t.val < 936 := Nat.lt_of_lt_of_eq t.isLt N_1
    have e0 : (grid1.coords t 0).val = t.val / 26 % 36 := Pipeline.Grid.coords_val t 0 (by decide) rfl
    have e1 : (grid1.coords t 1).val = t.val / 1 % 26 := Pipeline.Grid.coords_val t 1 (by decide) rfl
    simp only [cond1_0, e0, e1]
    word_cmp
   : ∀ t : Fin grid1.N, cond1_0 (grid1.coords t) ↔ t.val % 26 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 26 :=
  (by decide +kernel : ∀ t : Fin grid1.N, cond1_1 (grid1.coords t) ↔ 1 ≤ t.val % 26)

/-- The condition of the body's `scf.if` 2 (`k1_h3`), from the grid coordinates (the skeleton's scalar
    chain substituted). -/
abbrev cond1_2 (i : grid1.Coords) : Prop := k1_cond3 i = 1#1
/-- It holds at the points ≡ 25 (mod 26) — by arithmetic of the point. -/
theorem hcond1_2 : ∀ t : Fin cfg1.N, cond1_2 (grid1.coords t) ↔ t.val % 26 = 25 :=
  (fun t => by
    have ht : t.val < 936 := Nat.lt_of_lt_of_eq t.isLt N_1
    have e0 : (grid1.coords t 0).val = t.val / 26 % 36 := Pipeline.Grid.coords_val t 0 (by decide) rfl
    have e1 : (grid1.coords t 1).val = t.val / 1 % 26 := Pipeline.Grid.coords_val t 1 (by decide) rfl
    simp only [cond1_2, k1_cond3, e0, e1]
    word_cmp
   : ∀ t : Fin grid1.N, cond1_2 (grid1.coords t) ↔ t.val % 26 = 25)

end Cert.Kernel.Run

end
-- ==== Proof.K.Stores.lean ====
/- What the second call's stores leave in its scratch and in its outputs, as functions of what was there. -/
module

public import proofs.«01_k».proof.Proof.K.Cond
public import Idealize.ShloMosaic.Lib.WritesUnit
public import Idealize.ShloMosaic.Lib.Pipeline.ValueKit
public import Idealize.ShloMosaic.Lib.Pointwise

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave, as functions -/

/-- The scratch stack of column blocks with slab `j` replaced by `w`. -/
def putSlab (H : Vec F S26x512x256 .f32) (j : Nat) (w : Vec F S1x512x256 .f32) : Vec F S26x512x256 .f32 :=
  fun y => if (y 0).val = j then w (ix3 0 (y 1) (y 2)) else H y

/-- Slab `t` of the stack, as the load of one column block reads it. -/
def slab (H : Vec F S26x512x256 .f32) (t : Fin 26) : Vec F S1x512x256 .f32 :=
  fun x => H (ix3 t (x 1) (x 2))

/-- The codes of a whole block of rows: column `q` is in slab `q / 256`, at `q % 256`. -/
def hcOut (inv : Vec F S512x1 .f32) (H : Vec F S26x512x256 .f32) : Vec F S512x6656 .fp8e4m3 :=
  fun y => k1_pay9 inv (slab H ⟨(y 1).val / 256, Nat.div_lt_of_lt_mul (y 1).isLt⟩)
    (ix2 (y 0) ⟨(y 1).val % 256, Nat.mod_lt _ (by decide)⟩)

theorem off1_eq (i : grid1.Coords) : k1_off1 i = ![(i 1).val, 0, 0] := by
  have h : (i 1).val < 26 := (i 1).isLt
  unfold k1_off1
  have e : (BitVec.ofNat 32 (i 1).val).toNat = (i 1).val := by rw [BitVec.toNat_ofNat]; exact Nat.mod_eq_of_lt (by omega)
  funext a
  fin_cases a <;> simp [Scalar.indexCast, e]
  done

/-- One store of a slab, read back. -/
theorem read_putSlab (v : View sig .tc .vmem S26x512x256 .f32) (f : v.ty.Contents (Elt F)) (i : grid1.Coords)
    (inb : ∀ a, k1_off1 i a + S1x512x256.size a ≤ S26x512x256.size a) (w : Vec F S1x512x256 .f32) :
    v.read (Elt F) (v.writes (Elt F) f [⟨Rect.unit (k1_off1 i) S1x512x256.size inb, w⟩])
      = putSlab (v.read (Elt F) f) (i 1).val w := by
  funext y
  unfold putSlab
  split
  · next h =>
    refine View.read_writes_cons_unit_of_mem v f inb w [] y (ix3 0 (y 1) (y 2)) (off1_eq i) ?_
    intro a
    fin_cases a
    · simp [ix3, h]
    · simp [ix3]
    · simp [ix3]
  · next h =>
    refine View.read_writes_cons_unit_of_not_mem v f inb w [] y (off1_eq i) 0 ?_
    simp
    omega

/-- A load of one slab. -/
theorem ld_slab (H : Vec F S26x512x256 .f32) (t : Nat) (ht : t < 26) (inb) :
    View.ld H (Rect.unit (s := S26x512x256) ![t, 0, 0] S1x512x256.size inb) = slab H ⟨t, ht⟩ := by
  funext x
  unfold slab
  refine View.ld_unit_apply_of H _ _ inb x _ ?_
  intro a
  have h0 : (x 0).val = 0 := by have : (x 0).val < 1 := (x 0).isLt; omega
  fin_cases a
  · simp [ix3]
  · simp [ix3]
  · simp [ix3]

/-- The piece of codes at column block `t` is that part of `hcOut`. -/
theorem tile_hc (inv : Vec F S512x1 .f32) (H : Vec F S26x512x256 .f32) (t : Nat) (ht : t < 26) (o : Nat) (ho : o = 256 * t)
    (w : Vec F S1x512x256 .f32) (hw : w = slab H ⟨t, ht⟩) (y : S512x6656.Idx) :
    View.TileAt (Val := Elt F) (S := S512x6656) (e := .fp8e4m3) y ![0, o] S512x256.size (k1_pay9 inv w) (hcOut inv H y) := by
  intro x hx
  subst hw ho
  have h0 : (y 0).val = 0 + (x 0).val := hx 0
  have h1 : (y 1).val = 256 * t + (x 1).val := hx 1
  have hx1 : (x 1).val < 256 := (x 1).isLt
  unfold hcOut
  have e : (⟨(y 1).val / 256, Nat.div_lt_of_lt_mul (y 1).isLt⟩ : Fin 26) = ⟨t, ht⟩ := Fin.ext (by simp only; omega)
  rw [e]
  congr 1
  funext a
  refine Fin.ext ?_
  fin_cases a
  · simp [ix2]; omega
  · simp [ix2]; omega

theorem slab_inb (t : Nat) (ht : t < 26) : ∀ a : Fin 3, (![t, 0, 0] : Fin 3 → Nat) a + S1x512x256.size a ≤ S26x512x256.size a := by
  intro a
  fin_cases a
  · simp [S1x512x256, S26x512x256]; omega
  · simp [S1x512x256, S26x512x256]
  · simp [S1x512x256, S26x512x256]

/-- A stored piece of codes at column `o`, whatever its payload's spelling, is that part of `hcOut`. -/
theorem tile_hc' (inv : Vec F S512x1 .f32) (H : Vec F S26x512x256 .f32) (o : Nat) (ho : o % 256 = 0) (hlt : o / 256 < 26)
    (p : Vec F S512x256 .fp8e4m3)
    (hp : p = k1_pay9 inv (View.ld H (Rect.unit (s := S26x512x256) ![o / 256, 0, 0] S1x512x256.size (slab_inb _ hlt))))
    (y : S512x6656.Idx) :
    View.TileAt (Val := Elt F) (S := S512x6656) (e := .fp8e4m3) y ![0, o] S512x256.size p (hcOut inv H y) := by
  subst hp
  exact tile_hc inv H (o / 256) hlt o (by omega) _ (ld_slab H _ hlt _) y

end Cert.Kernel.Run

end
-- ==== Proof.K.Body.lean ====
/- The second call's body at a point, in its three cases: what it leaves in the scratch and in the outputs. -/
module

public import proofs.«01_k».proof.Proof.K.Stores

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole buffer reads what it holds. -/
theorem readAt_whole {S : Shape} {e : EltTy} (v : View sig .tc .vmem S e) (f : v.ty.Contents (Elt F)) {off : Fin S.rank → Nat}
    (inb : ∀ a, off a + S.size a ≤ S.size a) (h : ∀ a, off a = 0) :
    View.readAt (Elt F) v (Rect.unit off (no_index S.size) inb).toLoadRect f = v.read (Elt F) f :=
  View.ld_unit_lit inb (v.read (Elt F) f) h

/-- A store of a whole buffer, read back. -/
theorem read_store_whole {S : Shape} {e : EltTy} (v : View sig .tc .vmem S e) (f : v.ty.Contents (Elt F)) {off : Fin S.rank → Nat}
    (inb : ∀ a, off a + S.size a ≤ S.size a) (w : S.Idx → Elt F e) (h : ∀ a, off a = 0) :
    v.read (Elt F) (v.writes (Elt F) f [⟨Rect.unit off S.size inb, w⟩]) = w := by
  funext y
  exact View.read_writes_cons_unit_of_mem v f inb w [] y y (View.eq_zero_of_forall h) (fun a => by simp)

/-- A function of six arguments at equal arguments. -/
theorem congr6 {A B C D E G T : Type} (p : A → B → C → D → E → G → T) {a a' b b' c c' d d' e e' g g'}
    (h0 : a = a') (h1 : b = b') (h2 : c = c') (h3 : d = d') (h4 : e = e') (h5 : g = g') :
    p a b c d e g = p a' b' c' d' e' g' := by
  subst h0 h1 h2 h3 h4 h5; rfl

set_option maxHeartbeats 2000000 in
/-- The body at the first column block of a row block: the block's slab stored, the running maximum started. -/
theorem run1_A (c : Dev nD) (i : grid1.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x6656 .fp8e4m3) (harg9 : arg9.IsWhole) (arg10 : Memref sig .tc .vmem S26x512x256 .f32) (harg10 : arg10.IsWhole) (arg11 : Memref sig .tc .vmem S512x128 .f32) (harg11 : arg11.IsWhole) (hc0 : cond1_0 i) (hc1 : ¬cond1_1 i) (hc2 : ¬cond1_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (putSlab xs0 (i 1).val (k1_pay37 x0 x1 x2 x3 x4 x5)) ∗ owns (c : Thread nD τ) arg11 fullShare (k1_pay39 x0 x1 x2 x3 x4 x5)) -∗ K ⟨⟩))
      ⊢ wp frame (wpE (defs₀ (F := F)) Variants.none c none) E (cc1_swiglu_fp8 i arg2 harg2 arg3 harg3 arg4 harg4 arg5 harg5 arg6 harg6 arg7 harg7 arg8 harg8 arg9 harg9 arg10 harg10 arg11 harg11) K := by
  simp only [cc1_swiglu_fp8_eq_skeleton]; unfold cc1_swiglu_fp8_skel
  simp only [k1_part10_eq_skeleton, k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hf4 hf5 hfs0 hfs1
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr; swap; · iexact HS0
    ipureintro
    exact (read_putSlab arg10.view fs0 i (k1_off1_inb i) _).trans (congrArg _ (congr6 k1_pay37 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))))
  iexists _; isplitr; swap; · iexact HS1
  ipureintro
  exact (read_store_whole arg11.view fs1 inb_S512x128_S512x128_0_0 _ (by decide)).trans (congr6 k1_pay39 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide)))

set_option maxHeartbeats 2000000 in
/-- The body at a later column block: the slab stored, the running maximum continued. -/
theorem run1_B (c : Dev nD) (i : grid1.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x6656 .fp8e4m3) (harg9 : arg9.IsWhole) (arg10 : Memref sig .tc .vmem S26x512x256 .f32) (harg10 : arg10.IsWhole) (arg11 : Memref sig .tc .vmem S512x128 .f32) (harg11 : arg11.IsWhole) (hc0 : ¬cond1_0 i) (hc1 : cond1_1 i) (hc2 : ¬cond1_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (putSlab xs0 (i 1).val (k1_pay37 x0 x1 x2 x3 x4 x5)) ∗ owns (c : Thread nD τ) arg11 fullShare (k1_pay1 (k1_pay38 x0 x1 x2 x3 x4 x5) xs1)) -∗ K ⟨⟩))
      ⊢ wp frame (wpE (defs₀ (F := F)) Variants.none c none) E (cc1_swiglu_fp8 i arg2 harg2 arg3 harg3 arg4 harg4 arg5 harg5 arg6 harg6 arg7 harg7 arg8 harg8 arg9 harg9 arg10 harg10 arg11 harg11) K := by
  simp only [cc1_swiglu_fp8_eq_skeleton]; unfold cc1_swiglu_fp8_skel
  simp only [k1_part10_eq_skeleton, k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hf4 hf5 hfs0 hfs1
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr; swap; · iexact HS0
    ipureintro
    exact (read_putSlab arg10.view fs0 i (k1_off1_inb i) _).trans (congrArg _ (congr6 k1_pay37 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))))
  iexists _; isplitr; swap; · iexact HS1
  ipureintro
  exact (read_store_whole arg11.view fs1 inb_S512x128_S512x128_0_0 _ (by decide)).trans (congrArg₂ k1_pay1 (congr6 k1_pay38 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))) (readAt_whole arg11.view fs1 inb_S512x128_S512x128_0_0 (by decide)))

set_option maxHeartbeats 2000000 in
/-- The body at the last column block: as before, and then the row block's scales and codes written from the running maximum and the stack of slabs. -/
theorem run1_C (c : Dev nD) (i : grid1.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x6656 .fp8e4m3) (harg9 : arg9.IsWhole) (arg10 : Memref sig .tc .vmem S26x512x256 .f32) (harg10 : arg10.IsWhole) (arg11 : Memref sig .tc .vmem S512x128 .f32) (harg11 : arg11.IsWhole) (hc0 : ¬cond1_0 i) (hc1 : cond1_1 i) (hc2 : cond1_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay3 (k1_pay1 (k1_pay38 x0 x1 x2 x3 x4 x5) xs1)) ∗ owns (c : Thread nD τ) arg9 fullShare (hcOut (k1_pay5 (k1_pay4 (k1_pay1 (k1_pay38 x0 x1 x2 x3 x4 x5) xs1))) (putSlab xs0 (i 1).val (k1_pay37 x0 x1 x2 x3 x4 x5))) ∗ owns (c : Thread nD τ) arg10 fullShare (putSlab xs0 (i 1).val (k1_pay37 x0 x1 x2 x3 x4 x5)) ∗ owns (c : Thread nD τ) arg11 fullShare (k1_pay1 (k1_pay38 x0 x1 x2 x3 x4 x5) xs1)) -∗ K ⟨⟩))
      ⊢ wp frame (wpE (defs₀ (F := F)) Variants.none c none) E (cc1_swiglu_fp8 i arg2 harg2 arg3 harg3 arg4 harg4 arg5 harg5 arg6 harg6 arg7 harg7 arg8 harg8 arg9 harg9 arg10 harg10 arg11 harg11) K := by
  simp only [cc1_swiglu_fp8_eq_skeleton]; unfold cc1_swiglu_fp8_skel
  simp only [k1_part10_eq_skeleton, k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  subst hf0 hf1 hf2 hf3 hf4 hf5 hfs0 hfs1
  sl_exec (disch := first | sl_exact hc0 | sl_exact hc1 | sl_exact hc2)
  sl_step
  have hH : View.read (Elt F) arg10.view (arg10.view.writes (Elt F) fs0 (run1_C.sl.HS0_1 c i arg2 arg3 arg4 arg5 arg6 arg7 f0 f1 f2 f3 f4 f5))
      = putSlab (View.read (Elt F) arg10.view fs0) (i 1).val (k1_pay37 (View.read (Elt F) arg2.view f0) (View.read (Elt F) arg3.view f1) (View.read (Elt F) arg4.view f2) (View.read (Elt F) arg5.view f3) (View.read (Elt F) arg6.view f4) (View.read (Elt F) arg7.view f5)) := by
    exact (read_putSlab arg10.view fs0 i (k1_off1_inb i) _).trans (congrArg _ (congr6 k1_pay37 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))))
  have hV : run1_C.sl.v41 c arg2 arg3 arg4 arg5 arg6 arg7 arg11 f0 f1 f2 f3 f4 f5 fs1
      = k1_pay1 (k1_pay38 (View.read (Elt F) arg2.view f0) (View.read (Elt F) arg3.view f1) (View.read (Elt F) arg4.view f2) (View.read (Elt F) arg5.view f3) (View.read (Elt F) arg6.view f4) (View.read (Elt F) arg7.view f5)) (View.read (Elt F) arg11.view fs1) := by
    exact (View.readCov_unit_lit arg11.view inb_S512x128_S512x128_0_0 _ (by decide)).trans (congrArg₂ k1_pay1 (congr6 k1_pay38 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))) (readAt_whole arg11.view fs1 inb_S512x128_S512x128_0_0 (by decide)))
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    exact (read_store_whole arg8.view f6 inb_S512x1_S512x1_0_0 _ (by decide)).trans (congrArg k1_pay3 hV)
  isplitl [H7]
  · iexists _; isplitr; swap; · iexact H7
    ipureintro
    unfold run1_C.sl.r_9 run1_C.sl.r_8 run1_C.sl.r_7 run1_C.sl.r_6 run1_C.sl.r_5 run1_C.sl.r_4 run1_C.sl.r_3 run1_C.sl.r_2
    rw [← hV, ← hH]
    generalize run1_C.sl.v41 c arg2 arg3 arg4 arg5 arg6 arg7 arg11 f0 f1 f2 f3 f4 f5 fs1 = A
    funext y
    refine (View.read_writes_apply_eq_canon _ _ y _ (View.cover_of_tiled_head _ _ _ (by rfl) y)).trans
      (View.canon_eq_of_allAt _ y _ (View.cover_of_tiled_head _ _ _ (by rfl) y) ?_)
    iterate 26
      refine View.allAt_cons_unit _ _ _ _ _ (tile_hc' _ _ _ (by decide) (by decide) _ ?_ y) ?_
      · first
          | unfold run1_C.sl.v
          | unfold run1_C.sl.v_1
          | unfold run1_C.sl.v_2
          | unfold run1_C.sl.v87
          | unfold run1_C.sl.v97
          | unfold run1_C.sl.v107
          | unfold run1_C.sl.v117
          | unfold run1_C.sl.v127
          | unfold run1_C.sl.v137
          | unfold run1_C.sl.v157
          | unfold run1_C.sl.v167
          | unfold run1_C.sl.v177
          | unfold run1_C.sl.v187
          | unfold run1_C.sl.v197
          | unfold run1_C.sl.v207
          | unfold run1_C.sl.v217
          | unfold run1_C.sl.v227
          | unfold run1_C.sl.v237
          | unfold run1_C.sl.v247
          | unfold run1_C.sl.v257
          | unfold run1_C.sl.v267
          | unfold run1_C.sl.v277
          | unfold run1_C.sl.v287
          | unfold run1_C.sl.v297
          | unfold run1_C.sl.v307
          | unfold run1_C.sl.v317
          | unfold run1_C.sl.v327
          | unfold run1_C.sl.v337
        generalize arg10.view.writes (Elt F) fs0 (run1_C.sl.HS0_1 c i arg2 arg3 arg4 arg5 arg6 arg7 f0 f1 f2 f3 f4 f5) = g
        rfl
    exact View.allAt_nil _ _
  isplitl [HS0]
  · iexists _; isplitr; swap; · iexact HS0
    ipureintro
    exact hH
  iexists _; isplitr; swap; · iexact HS1
  ipureintro
  exact (read_store_whole arg11.view fs1 inb_S512x128_S512x128_0_0 _ (by decide)).trans (congrArg₂ k1_pay1 (congr6 k1_pay38 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))) (readAt_whole arg11.view fs1 inb_S512x128_S512x128_0_0 (by decide)))

end Cert.Kernel.Run

end
-- ==== Proof.K.Dat1.lean ====
/- The second call's proof data: what its scratch carries from point to point, what its outputs hold, and that the body keeps both. -/
module

public import proofs.«01_k».proof.Proof.K.Body

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-! ## What the second call's scratch holds, point by point -/

/-- Grid point number `n` (numbers past the grid wrap around; none is used). -/
def pt (n : ℕ) : Fin cfg1.N := ⟨n % 936, lt_of_lt_of_eq (Nat.mod_lt _ (by decide)) N_1.symm⟩

theorem pt_val (t : Fin cfg1.N) : pt t.val = t :=
  Fin.ext (Nat.mod_eq_of_lt (lt_of_lt_of_eq t.isLt N_1))

/-- The slab of the second stage's values computed at point `t`. -/
def slabAt (c : Dev nD) (t : Fin cfg1.N) : Vec F S1x512x256 .f32 := k1_pay37 (iblk1 V c 0 t) (iblk1 V c 1 t) (iblk1 V c 2 t) (iblk1 V c 3 t) (iblk1 V c 4 t) (iblk1 V c 5 t)
/-- That block's maximum of absolute values, over the lanes a running maximum keeps. -/
def partAt (c : Dev nD) (t : Fin cfg1.N) : Vec F S512x128 .f32 := k1_pay38 (iblk1 V c 0 t) (iblk1 V c 1 t) (iblk1 V c 2 t) (iblk1 V c 3 t) (iblk1 V c 4 t) (iblk1 V c 5 t)
/-- The running maximum as the first column block of a row block starts it. -/
def startAt (c : Dev nD) (t : Fin cfg1.N) : Vec F S512x128 .f32 := k1_pay39 (iblk1 V c 0 t) (iblk1 V c 1 t) (iblk1 V c 2 t) (iblk1 V c 3 t) (iblk1 V c 4 t) (iblk1 V c 5 t)

/-- The running maximum after point `n`. -/
def acc (c : Dev nD) : ℕ → Vec F S512x128 .f32
  | 0 => startAt V c (pt 0)
  | n + 1 => if (n + 1) % 26 = 0 then startAt V c (pt (n + 1)) else k1_pay1 (partAt V c (pt (n + 1))) (acc c n)

theorem acc_first (c : Dev nD) (n : ℕ) (h : n % 26 = 0) : acc V c n = startAt V c (pt n) := by
  cases n with
  | zero => rfl
  | succ n => simp only [acc]; rw [if_pos h]

theorem acc_next (c : Dev nD) (n : ℕ) (h : n % 26 ≠ 0) : acc V c n = k1_pay1 (partAt V c (pt n)) (acc V c (n - 1)) := by
  cases n with
  | zero => exact absurd rfl h
  | succ n => simp only [acc]; rw [if_neg h]; rfl

/-- The whole stack of slabs of the row block that point `t` is in. -/
def stackAt (c : Dev nD) (t : Fin cfg1.N) : Vec F S26x512x256 .f32 :=
  fun y => slabAt V c (pt (t.val / 26 * 26 + (y 0).val)) (ix3 0 (y 1) (y 2))

/-- What the scratch holds before point `n`: the slabs of the row block's points so far, and (but before a row block's
    first point) the running maximum after the point before. -/
def ScrOk (c : Dev nD) (n : ℕ) (f : Vec F S26x512x256 .f32) (g : Vec F S512x128 .f32) : Prop :=
  (∀ y : S26x512x256.Idx, (y 0).val < n % 26 → f y = slabAt V c (pt (n / 26 * 26 + (y 0).val)) (ix3 0 (y 1) (y 2)))
    ∧ (n % 26 ≠ 0 → g = acc V c (n - 1))

theorem ScrOk.zero (c : Dev nD) (n : ℕ) (h : n % 26 = 0) (f g) : ScrOk V c n f g :=
  ⟨fun y hy => absurd hy (by omega), fun hn => absurd h hn⟩

theorem ScrOk.step {c : Dev nD} {n : ℕ} {f g} (h : ScrOk V c n f g) :
    ScrOk V c (n + 1) (putSlab f (n % 26) (slabAt V c (pt n))) (acc V c n) := by
  by_cases h25 : n % 26 = 25
  · exact ScrOk.zero V c (n + 1) (by omega) _ _
  refine ⟨fun y hy => ?_, fun _ => rfl⟩
  have e : (n + 1) / 26 = n / 26 := by omega
  rw [e]
  unfold putSlab
  split
  · next hj =>
    rw [hj]
    have : n / 26 * 26 + n % 26 = n := by omega
    rw [this]
  · next hj => exact h.1 y (by omega)

theorem ScrOk.full {c : Dev nD} {t : Fin cfg1.N} {f g} (h : ScrOk V c t.val f g) (h25 : t.val % 26 = 25) :
    putSlab f (t.val % 26) (slabAt V c t) = stackAt V c t := by
  funext y
  have hy : (y 0).val < 26 := (y 0).isLt
  unfold putSlab stackAt
  split
  · next hj =>
    rw [hj]
    have : t.val / 26 * 26 + t.val % 26 = t.val := by omega
    rw [this, pt_val]
  · next hj => exact h.1 y (by omega)

/-- The region invariant before point `n`: the scratch as `ScrOk` says, the first call's staging buffers and the
    generator register at anything. -/
def PhiS (c : Dev nD) (n : ℕ) : sProp 𝕄 :=
  iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ f g, ⌜ScrOk V c n f g⌝ ∗ owns (c : Thread nD τ) (Memref.whole cc1_scratch0 : Memref sig .tc .vmem S26x512x256 .f32) fullShare f
      ∗ owns (c : Thread nD τ) (Memref.whole cc1_scratch1 : Memref sig .tc .vmem S512x128 .f32) fullShare g)) ∗ ∃ r, prngReg c r)

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) (Memref.whole cc1_scratch0 : Memref sig .tc .vmem S26x512x256 .f32) fullShare d) ∗ (∃ d, owns (c : Thread nD τ) (Memref.whole cc1_scratch1 : Memref sig .tc .vmem S512x128 .f32) fullShare d)) ∗ (∃ r, prngReg c r)) := by
  unfold Pipeline.ΦA; rw [scopedRest1_eq]; simp only [owns_whole]; try rfl

/-- What the launch hands the region is the invariant before the first point, -/
theorem PhiS_in (c : Dev nD) : Pipeline.ΦA spec1 c ⊢ PhiS V c 0 := by
  rw [PhiA1_eq]; unfold PhiS
  iintro ⟨⟨H0, H1, H2, H3, H4, H5, ⟨%f, HS0⟩, ⟨%g, HS1⟩⟩, Hg⟩
  isplitr [Hg]; swap; · iexact Hg
  isplitr [HS0 HS1]
  · isplitl [H0]; · iexact H0
    isplitl [H1]; · iexact H1
    isplitl [H2]; · iexact H2
    isplitl [H3]; · iexact H3
    isplitl [H4]; · iexact H4
    iexact H5
  iexists f; iexists g
  isplitr; · ipureintro; exact ScrOk.zero V c 0 rfl f g
  isplitl [HS0]; · iexact HS0
  iexact HS1

/-- and the invariant at any point gives it back, the named contents forgotten. -/
theorem PhiS_out (c : Dev nD) (n : ℕ) : PhiS V c n ⊢ Pipeline.ΦA spec1 c := by
  rw [PhiA1_eq]; unfold PhiS
  iintro ⟨⟨⟨H0, H1, H2, H3, H4, H5⟩, ⟨%f, %g, -, HS0, HS1⟩⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  iexists _; iexact HS1

/-! ## The pipeline's proof data -/

/-- The proof data of the second call on core `c`: the arrays as the region finds them (`V`); after the body at point `t`
    each input's buffer at its block, and each output's at the scales and codes of the row block's whole stack (read only
    at a row block's last point: elsewhere the window is idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (acc V c t.val)
    | ⟨7, _⟩ => hcOut (k1_pay5 (k1_pay4 (acc V c t.val))) (stackAt V c t)
  Φ t := PhiS V c t.val
  q w := Pipeline.shareOf spec1 w
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay3 (acc V c t.val) := by dsimp only [dat1]
theorem after1_7 (c : Dev nD) (t : Fin cfg1.N) : (dat1 V c).after 7 t = hcOut (k1_pay5 (k1_pay4 (acc V c t.val))) (stackAt V c t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem coords1 (t : Fin cfg1.N) : (grid1.coords t 1).val = t.val % 26 := by
  have e1 : (grid1.coords t 1).val = t.val / 1 % 26 := Pipeline.Grid.coords_val t 1 (by decide) rfl
  rw [e1, Nat.div_one]

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (cfg1.grid.coords t) = false from rfl, after1_5]
theorem idle1_6 (t : Fin cfg1.N) : cfg1.idle 6 (cfg1.grid.coords t) = !(k1_cond3 (grid1.coords t) == 1#1) := rfl
theorem leaves1_6_live (c : Dev nD) (t : Fin cfg1.N) (h : t.val % 26 = 25) :
    (dat1 V c).leavesExact 6 t = owns (c : Thread nD τ) (st1_6 t) fullShare ((dat1 V c).after 6 t) := by
  have hi : cfg1.idle 6 (cfg1.grid.coords t) = false := by
    have e : k1_cond3 (grid1.coords t) = 1#1 := (hcond1_2 t).mpr h
    rw [idle1_6, e]; decide
  unfold Dat.leavesExact; rw [hi]
theorem leaves1_6_idle (c : Dev nD) (t : Fin cfg1.N) (h : ¬t.val % 26 = 25) :
    (dat1 V c).leavesExact 6 t = iprop(∃ d, owns (c : Thread nD τ) (st1_6 t) fullShare ((dat1 V c).before 6 t d)) :=
  (dat1 V c).leavesExact_idle 6 t
    (by
      have e : ¬k1_cond3 (grid1.coords t) = 1#1 := fun e => h ((hcond1_2 t).mp e)
      rw [idle1_6, beq_eq_false_iff_ne.mpr e]; rfl)
    (by
      cases hf : (cfg1.win 6).flush t with
      | false => rfl
      | true => exact absurd ((flush1_6 t).mp hf) h)

theorem idle1_7 (t : Fin cfg1.N) : cfg1.idle 7 (cfg1.grid.coords t) = !(k1_cond3 (grid1.coords t) == 1#1) := rfl
theorem leaves1_7_live (c : Dev nD) (t : Fin cfg1.N) (h : t.val % 26 = 25) :
    (dat1 V c).leavesExact 7 t = owns (c : Thread nD τ) (st1_7 t) fullShare ((dat1 V c).after 7 t) := by
  have hi : cfg1.idle 7 (cfg1.grid.coords t) = false := by
    have e : k1_cond3 (grid1.coords t) = 1#1 := (hcond1_2 t).mpr h
    rw [idle1_7, e]; decide
  unfold Dat.leavesExact; rw [hi]
theorem leaves1_7_idle (c : Dev nD) (t : Fin cfg1.N) (h : ¬t.val % 26 = 25) :
    (dat1 V c).leavesExact 7 t = iprop(∃ d, owns (c : Thread nD τ) (st1_7 t) fullShare ((dat1 V c).before 7 t d)) :=
  (dat1 V c).leavesExact_idle 7 t
    (by
      have e : ¬k1_cond3 (grid1.coords t) = 1#1 := fun e => h ((hcond1_2 t).mp e)
      rw [idle1_7, beq_eq_false_iff_ne.mpr e]; rfl)
    (by
      cases hf : (cfg1.win 7).flush t with
      | false => rfl
      | true => exact absurd ((flush1_7 t).mp hf) h)

set_option maxHeartbeats 4000000 in
/-- The body at any point, in its three cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.castSucc = PhiS V c t.val from rfl, show (dat1 V c).Φ t.succ = PhiS V c (t.val + 1) from rfl,
    leaves1_0, leaves1_1, leaves1_2, leaves1_3, leaves1_4, leaves1_5]
  unfold PhiS
  have hj := coords1 t
  by_cases h25 : t.val % 26 = 25
  · rw [leaves1_6_live V c t h25, leaves1_7_live V c t h25]
    have h0 : ¬t.val % 26 = 0 := by omega
    have hacc : acc V c t.val = k1_pay1 (k1_pay38 (iblk1 V c 0 t) (iblk1 V c 1 t) (iblk1 V c 2 t) (iblk1 V c 3 t) (iblk1 V c 4 t) (iblk1 V c 5 t)) (acc V c (t.val - 1)) := by rw [acc_next V c _ h0, pt_val]; rfl
    iintro ⟨⟨⟨HR, ⟨%f, %g, %hok, HS0, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs := hok.step V
    rw [pt_val] at hs
    have hg := hok.2 h0
    have hfull := hok.full V h25
    rw [after1_6, after1_7, ← hfull]
    rw [← hj] at hs
    rw [hacc] at hs
    rw [hacc, ← hj]
    subst hg
    iapply (run1_C c (grid1.coords t) _ _ _ _ _ _ _ _ _ _ _ _ _ _ _ _ _ _ _ _ (fun h => h0 ((hcond1_0 t).mp h)) ((hcond1_1 t).mpr (by omega)) ((hcond1_2 t).mpr h25) (iblk1 V c 0 t) (iblk1 V c 1 t) (iblk1 V c 2 t) (iblk1 V c 3 t) (iblk1 V c 4 t) (iblk1 V c 5 t) f (acc V c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HR Hg HS0 HS1]
    · isplitr [Hg]; swap; · iexact Hg
      isplitl [HR]; · iexact HR
      iexists _; iexists _
      isplitr; · ipureintro; exact hs
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [leaves1_6_idle V c t h25, leaves1_7_idle V c t h25]
    by_cases h0 : t.val % 26 = 0
    · have hacc : acc V c t.val = k1_pay39 (iblk1 V c 0 t) (iblk1 V c 1 t) (iblk1 V c 2 t) (iblk1 V c 3 t) (iblk1 V c 4 t) (iblk1 V c 5 t) := by rw [acc_first V c _ h0, pt_val]; rfl
      iintro ⟨⟨⟨HR, ⟨%f, %g, %hok, HS0, HS1⟩⟩, Hg⟩, Ho, ⟨%d0, H0⟩, ⟨%d1, H1⟩, ⟨%d2, H2⟩, ⟨%d3, H3⟩, ⟨%d4, H4⟩, ⟨%d5, H5⟩, H6, H7⟩
      have hs := hok.step V
      rw [pt_val] at hs
      rw [← hj] at hs
      rw [hacc] at hs
      iapply (run1_A c (grid1.coords t) _ _ _ _ _ _ _ _ _ _ _ _ _ _ _ _ _ _ _ _ ((hcond1_0 t).mpr h0) (fun h => absurd ((hcond1_1 t).mp h) (by omega)) (fun h => h25 ((hcond1_2 t).mp h)) (iblk1 V c 0 t) (iblk1 V c 1 t) (iblk1 V c 2 t) (iblk1 V c 3 t) (iblk1 V c 4 t) (iblk1 V c 5 t) f g Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HR Hg HS0 HS1]
      · isplitr [Hg]; swap; · iexact Hg
        isplitl [HR]; · iexact HR
        iexists _; iexists _
        isplitr; · ipureintro; exact hs
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hacc : acc V c t.val = k1_pay1 (k1_pay38 (iblk1 V c 0 t) (iblk1 V c 1 t) (iblk1 V c 2 t) (iblk1 V c 3 t) (iblk1 V c 4 t) (iblk1 V c 5 t)) (acc V c (t.val - 1)) := by rw [acc_next V c _ h0, pt_val]; rfl
      iintro ⟨⟨⟨HR, ⟨%f, %g, %hok, HS0, HS1⟩⟩, Hg⟩, Ho, ⟨%d0, H0⟩, ⟨%d1, H1⟩, ⟨%d2, H2⟩, ⟨%d3, H3⟩, ⟨%d4, H4⟩, ⟨%d5, H5⟩, H6, H7⟩
      have hs := hok.step V
      rw [pt_val] at hs
      have hg := hok.2 h0
      rw [← hj] at hs
      rw [hacc] at hs
      subst hg
      iapply (run1_B c (grid1.coords t) _ _ _ _ _ _ _ _ _ _ _ _ _ _ _ _ _ _ _ _ (fun h => h0 ((hcond1_0 t).mp h)) ((hcond1_1 t).mpr (by omega)) (fun h => h25 ((hcond1_2 t).mp h)) (iblk1 V c 0 t) (iblk1 V c 1 t) (iblk1 V c 2 t) (iblk1 V c 3 t) (iblk1 V c 4 t) (iblk1 V c 5 t) f (acc V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HR Hg HS0 HS1]
      · isplitr [Hg]; swap; · iexact Hg
        isplitl [HR]; · iexact HR
        iexists _; iexists _
        isplitr; · ipureintro; exact hs
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.K.Run.lean ====
/- The whole program's run: its host reshapes and its two calls in order, each buffer's contents at every boundary. -/
module

public import proofs.«01_k».proof.Proof.K.Dat1

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS (V3 m ρ) c 0 from rfl]
    refine BIBase.Entails.trans ?_ (PhiS_in (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = PhiS (V3 m ρ) c (Fin.last cfg1.N).val from rfl]
    refine (PhiS_out (V3 m ρ) c _).trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every execution of @main terminates without fault, every buffer that outlives the regions ending at the last
    boundary's contents `W5`, every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.Kernel.Run

end
-- ==== Proof.KI.Base.lean ====
/- The two kernel calls' input blocks, and everything about the first call (the quantiser): its body's result and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x16384 := Rect.unit (s := S256x16384) ![0, 0] S256x16384.size inb_S256x16384_S256x16384_0_0
abbrev r0_1 : Rect S256x1 := Rect.unit (s := S256x1) ![0, 0] S256x1.size inb_S256x1_S256x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S256x16384 .bf16) : Vec F S256x16384 .fp8e4m3 :=
  View.canon [⟨r0_0, k0_pay2 (k0_pay3 (View.ld x0 r0_0)) (k0_pay4 (View.ld x0 r0_0))⟩]

/-- Its stores tile the buffer (checked by evaluation), so they cover it. -/
theorem cover0_1 (p0 : Vec F S256x16384 .fp8e4m3) (y : S256x16384.Idx) :
    ∃ pc ∈ ([⟨r0_0, p0⟩] : List (View.Piece (Elt F) S256x16384 .fp8e4m3)), y ∈ pc.1.set :=
  View.cover_of_tiled [⟨r0_0, p0⟩] S256x16384.size (by rfl) y

/-- Window 2's staging buffer after the body, from the input windows' blocks: its 1 store as pieces, LAST
    FIRST (Lib/Pipeline/FrameBody.lean `View.canon`; the payloads are the skeleton's). -/
def out0_2 (x0 : Vec F S256x16384 .bf16) : Vec F S256x1 .f32 :=
  View.canon [⟨r0_1, k0_pay1 (F := F) (k0_pay5 (View.ld x0 r0_0))⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x16384 .bf16) (harg1 : arg1.IsWhole) (arg2 : Memref sig .tc .vmem S256x16384 .fp8e4m3) (harg2 : arg2.IsWhole) (arg3 : Memref sig .tc .vmem S256x1 .f32) (harg3 : arg3.IsWhole)
    (x0 : Vec F S256x16384 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_swiglu_fp8` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Run

end
-- ==== Proof.KI.Cond.lean ====
/- The second call's three branch conditions in closed form over the grid points: the first column block of a row block, any later one, the last one. -/
module

public import proofs.«01_k».proof.Proof.KI.Base

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 26) — by arithmetic of the point. -/
theorem hcond1_0 : ∀ t : Fin cfg1.N, cond1_0 (grid1.coords t) ↔ t.val % 26 = 0 :=
  (fun t => by
    have ht : t.val < 936 := Nat.lt_of_lt_of_eq t.isLt N_1
    have e0 : (grid1.coords t 0).val = t.val / 26 % 36 := Pipeline.Grid.coords_val t 0 (by decide) rfl
    have e1 : (grid1.coords t 1).val = t.val / 1 % 26 := Pipeline.Grid.coords_val t 1 (by decide) rfl
    simp only [cond1_0, e0, e1]
    word_cmp
   : ∀ t : Fin grid1.N, cond1_0 (grid1.coords t) ↔ t.val % 26 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 26 :=
  (by decide +kernel : ∀ t : Fin grid1.N, cond1_1 (grid1.coords t) ↔ 1 ≤ t.val % 26)

/-- The condition of the body's `scf.if` 2 (`k1_h3`), from the grid coordinates (the skeleton's scalar
    chain substituted). -/
abbrev cond1_2 (i : grid1.Coords) : Prop := k1_cond3 i = 1#1
/-- It holds at the points ≡ 25 (mod 26) — by arithmetic of the point. -/
theorem hcond1_2 : ∀ t : Fin cfg1.N, cond1_2 (grid1.coords t) ↔ t.val % 26 = 25 :=
  (fun t => by
    have ht : t.val < 936 := Nat.lt_of_lt_of_eq t.isLt N_1
    have e0 : (grid1.coords t 0).val = t.val / 26 % 36 := Pipeline.Grid.coords_val t 0 (by decide) rfl
    have e1 : (grid1.coords t 1).val = t.val / 1 % 26 := Pipeline.Grid.coords_val t 1 (by decide) rfl
    simp only [cond1_2, k1_cond3, e0, e1]
    word_cmp
   : ∀ t : Fin grid1.N, cond1_2 (grid1.coords t) ↔ t.val % 26 = 25)

end Cert.KernelIdeal.Run

end
-- ==== Proof.KI.Stores.lean ====
/- What the second call's stores leave in its scratch and in its outputs, as functions of what was there. -/
module

public import proofs.«01_k».proof.Proof.KI.Cond
public import Idealize.ShloMosaic.Lib.WritesUnit
public import Idealize.ShloMosaic.Lib.Pipeline.ValueKit
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave, as functions -/

/-- The scratch stack of column blocks with slab `j` replaced by `w`. -/
def putSlab (H : Vec F S26x512x256 .f32) (j : Nat) (w : Vec F S1x512x256 .f32) : Vec F S26x512x256 .f32 :=
  fun y => if (y 0).val = j then w (ix3 0 (y 1) (y 2)) else H y

/-- Slab `t` of the stack, as the load of one column block reads it. -/
def slab (H : Vec F S26x512x256 .f32) (t : Fin 26) : Vec F S1x512x256 .f32 :=
  fun x => H (ix3 t (x 1) (x 2))

/-- The codes of a whole block of rows: column `q` is in slab `q / 256`, at `q % 256`. -/
def hcOut (inv : Vec F S512x1 .f32) (H : Vec F S26x512x256 .f32) : Vec F S512x6656 .fp8e4m3 :=
  fun y => k1_pay9 inv (slab H ⟨(y 1).val / 256, Nat.div_lt_of_lt_mul (y 1).isLt⟩)
    (ix2 (y 0) ⟨(y 1).val % 256, Nat.mod_lt _ (by decide)⟩)

theorem off1_eq (i : grid1.Coords) : k1_off1 i = ![(i 1).val, 0, 0] := by
  have h : (i 1).val < 26 := (i 1).isLt
  unfold k1_off1
  have e : (BitVec.ofNat 32 (i 1).val).toNat = (i 1).val := by rw [BitVec.toNat_ofNat]; exact Nat.mod_eq_of_lt (by omega)
  funext a
  fin_cases a <;> simp [Scalar.indexCast, e]
  done

/-- One store of a slab, read back. -/
theorem read_putSlab (v : View sig .tc .vmem S26x512x256 .f32) (f : v.ty.Contents (Elt F)) (i : grid1.Coords)
    (inb : ∀ a, k1_off1 i a + S1x512x256.size a ≤ S26x512x256.size a) (w : Vec F S1x512x256 .f32) :
    v.read (Elt F) (v.writes (Elt F) f [⟨Rect.unit (k1_off1 i) S1x512x256.size inb, w⟩])
      = putSlab (v.read (Elt F) f) (i 1).val w := by
  funext y
  unfold putSlab
  split
  · next h =>
    refine View.read_writes_cons_unit_of_mem v f inb w [] y (ix3 0 (y 1) (y 2)) (off1_eq i) ?_
    intro a
    fin_cases a
    · simp [ix3, h]
    · simp [ix3]
    · simp [ix3]
  · next h =>
    refine View.read_writes_cons_unit_of_not_mem v f inb w [] y (off1_eq i) 0 ?_
    simp
    omega

/-- A load of one slab. -/
theorem ld_slab (H : Vec F S26x512x256 .f32) (t : Nat) (ht : t < 26) (inb) :
    View.ld H (Rect.unit (s := S26x512x256) ![t, 0, 0] S1x512x256.size inb) = slab H ⟨t, ht⟩ := by
  funext x
  unfold slab
  refine View.ld_unit_apply_of H _ _ inb x _ ?_
  intro a
  have h0 : (x 0).val = 0 := by have : (x 0).val < 1 := (x 0).isLt; omega
  fin_cases a
  · simp [ix3]
  · simp [ix3]
  · simp [ix3]

/-- The piece of codes at column block `t` is that part of `hcOut`. -/
theorem tile_hc (inv : Vec F S512x1 .f32) (H : Vec F S26x512x256 .f32) (t : Nat) (ht : t < 26) (o : Nat) (ho : o = 256 * t)
    (w : Vec F S1x512x256 .f32) (hw : w = slab H ⟨t, ht⟩) (y : S512x6656.Idx) :
    View.TileAt (Val := Elt F) (S := S512x6656) (e := .fp8e4m3) y ![0, o] S512x256.size (k1_pay9 inv w) (hcOut inv H y) := by
  intro x hx
  subst hw ho
  have h0 : (y 0).val = 0 + (x 0).val := hx 0
  have h1 : (y 1).val = 256 * t + (x 1).val := hx 1
  have hx1 : (x 1).val < 256 := (x 1).isLt
  unfold hcOut
  have e : (⟨(y 1).val / 256, Nat.div_lt_of_lt_mul (y 1).isLt⟩ : Fin 26) = ⟨t, ht⟩ := Fin.ext (by simp only; omega)
  rw [e]
  congr 1
  funext a
  refine Fin.ext ?_
  fin_cases a
  · simp [ix2]; omega
  · simp [ix2]; omega

theorem slab_inb (t : Nat) (ht : t < 26) : ∀ a : Fin 3, (![t, 0, 0] : Fin 3 → Nat) a + S1x512x256.size a ≤ S26x512x256.size a := by
  intro a
  fin_cases a
  · simp [S1x512x256, S26x512x256]; omega
  · simp [S1x512x256, S26x512x256]
  · simp [S1x512x256, S26x512x256]

/-- A stored piece of codes at column `o`, whatever its payload's spelling, is that part of `hcOut`. -/
theorem tile_hc' (inv : Vec F S512x1 .f32) (H : Vec F S26x512x256 .f32) (o : Nat) (ho : o % 256 = 0) (hlt : o / 256 < 26)
    (p : Vec F S512x256 .fp8e4m3)
    (hp : p = k1_pay9 inv (View.ld H (Rect.unit (s := S26x512x256) ![o / 256, 0, 0] S1x512x256.size (slab_inb _ hlt))))
    (y : S512x6656.Idx) :
    View.TileAt (Val := Elt F) (S := S512x6656) (e := .fp8e4m3) y ![0, o] S512x256.size p (hcOut inv H y) := by
  subst hp
  exact tile_hc inv H (o / 256) hlt o (by omega) _ (ld_slab H _ hlt _) y

end Cert.KernelIdeal.Run

end
-- ==== Proof.KI.Body.lean ====
/- The second call's body at a point, in its three cases: what it leaves in the scratch and in the outputs. -/
module

public import proofs.«01_k».proof.Proof.KI.Stores

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole buffer reads what it holds. -/
theorem readAt_whole {S : Shape} {e : EltTy} (v : View sig .tc .vmem S e) (f : v.ty.Contents (Elt F)) {off : Fin S.rank → Nat}
    (inb : ∀ a, off a + S.size a ≤ S.size a) (h : ∀ a, off a = 0) :
    View.readAt (Elt F) v (Rect.unit off (no_index S.size) inb).toLoadRect f = v.read (Elt F) f :=
  View.ld_unit_lit inb (v.read (Elt F) f) h

/-- A store of a whole buffer, read back. -/
theorem read_store_whole {S : Shape} {e : EltTy} (v : View sig .tc .vmem S e) (f : v.ty.Contents (Elt F)) {off : Fin S.rank → Nat}
    (inb : ∀ a, off a + S.size a ≤ S.size a) (w : S.Idx → Elt F e) (h : ∀ a, off a = 0) :
    v.read (Elt F) (v.writes (Elt F) f [⟨Rect.unit off S.size inb, w⟩]) = w := by
  funext y
  exact View.read_writes_cons_unit_of_mem v f inb w [] y y (View.eq_zero_of_forall h) (fun a => by simp)

/-- A function of six arguments at equal arguments. -/
theorem congr6 {A B C D E G T : Type} (p : A → B → C → D → E → G → T) {a a' b b' c c' d d' e e' g g'}
    (h0 : a = a') (h1 : b = b') (h2 : c = c') (h3 : d = d') (h4 : e = e') (h5 : g = g') :
    p a b c d e g = p a' b' c' d' e' g' := by
  subst h0 h1 h2 h3 h4 h5; rfl

set_option maxHeartbeats 2000000 in
/-- The body at the first column block of a row block: the block's slab stored, the running maximum started. -/
theorem run1_A (c : Dev nD) (i : grid1.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x6656 .fp8e4m3) (harg9 : arg9.IsWhole) (arg10 : Memref sig .tc .vmem S26x512x256 .f32) (harg10 : arg10.IsWhole) (arg11 : Memref sig .tc .vmem S512x128 .f32) (harg11 : arg11.IsWhole) (hc0 : cond1_0 i) (hc1 : ¬cond1_1 i) (hc2 : ¬cond1_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (putSlab xs0 (i 1).val (k1_pay37 x0 x1 x2 x3 x4 x5)) ∗ owns (c : Thread nD τ) arg11 fullShare (k1_pay39 x0 x1 x2 x3 x4 x5)) -∗ K ⟨⟩))
      ⊢ wp frame (wpE (defs₀ (F := F)) Variants.none c none) E (cc1_swiglu_fp8 i arg2 harg2 arg3 harg3 arg4 harg4 arg5 harg5 arg6 harg6 arg7 harg7 arg8 harg8 arg9 harg9 arg10 harg10 arg11 harg11) K := by
  simp only [cc1_swiglu_fp8_eq_skeleton]; unfold cc1_swiglu_fp8_skel
  simp only [k1_part10_eq_skeleton, k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hf4 hf5 hfs0 hfs1
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr; swap; · iexact HS0
    ipureintro
    exact (read_putSlab arg10.view fs0 i (k1_off1_inb i) _).trans (congrArg _ (congr6 k1_pay37 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))))
  iexists _; isplitr; swap; · iexact HS1
  ipureintro
  exact (read_store_whole arg11.view fs1 inb_S512x128_S512x128_0_0 _ (by decide)).trans (congr6 k1_pay39 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide)))

set_option maxHeartbeats 2000000 in
/-- The body at a later column block: the slab stored, the running maximum continued. -/
theorem run1_B (c : Dev nD) (i : grid1.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x6656 .fp8e4m3) (harg9 : arg9.IsWhole) (arg10 : Memref sig .tc .vmem S26x512x256 .f32) (harg10 : arg10.IsWhole) (arg11 : Memref sig .tc .vmem S512x128 .f32) (harg11 : arg11.IsWhole) (hc0 : ¬cond1_0 i) (hc1 : cond1_1 i) (hc2 : ¬cond1_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (putSlab xs0 (i 1).val (k1_pay37 x0 x1 x2 x3 x4 x5)) ∗ owns (c : Thread nD τ) arg11 fullShare (k1_pay1 (k1_pay38 x0 x1 x2 x3 x4 x5) xs1)) -∗ K ⟨⟩))
      ⊢ wp frame (wpE (defs₀ (F := F)) Variants.none c none) E (cc1_swiglu_fp8 i arg2 harg2 arg3 harg3 arg4 harg4 arg5 harg5 arg6 harg6 arg7 harg7 arg8 harg8 arg9 harg9 arg10 harg10 arg11 harg11) K := by
  simp only [cc1_swiglu_fp8_eq_skeleton]; unfold cc1_swiglu_fp8_skel
  simp only [k1_part10_eq_skeleton, k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hf4 hf5 hfs0 hfs1
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr; swap; · iexact HS0
    ipureintro
    exact (read_putSlab arg10.view fs0 i (k1_off1_inb i) _).trans (congrArg _ (congr6 k1_pay37 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))))
  iexists _; isplitr; swap; · iexact HS1
  ipureintro
  exact (read_store_whole arg11.view fs1 inb_S512x128_S512x128_0_0 _ (by decide)).trans (congrArg₂ k1_pay1 (congr6 k1_pay38 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))) (readAt_whole arg11.view fs1 inb_S512x128_S512x128_0_0 (by decide)))

set_option maxHeartbeats 2000000 in
/-- The body at the last column block: as before, and then the row block's scales and codes written from the running maximum and the stack of slabs. -/
theorem run1_C (c : Dev nD) (i : grid1.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x6656 .fp8e4m3) (harg9 : arg9.IsWhole) (arg10 : Memref sig .tc .vmem S26x512x256 .f32) (harg10 : arg10.IsWhole) (arg11 : Memref sig .tc .vmem S512x128 .f32) (harg11 : arg11.IsWhole) (hc0 : ¬cond1_0 i) (hc1 : cond1_1 i) (hc2 : cond1_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay3 (k1_pay1 (k1_pay38 x0 x1 x2 x3 x4 x5) xs1)) ∗ owns (c : Thread nD τ) arg9 fullShare (hcOut (k1_pay5 (k1_pay4 (k1_pay1 (k1_pay38 x0 x1 x2 x3 x4 x5) xs1))) (putSlab xs0 (i 1).val (k1_pay37 x0 x1 x2 x3 x4 x5))) ∗ owns (c : Thread nD τ) arg10 fullShare (putSlab xs0 (i 1).val (k1_pay37 x0 x1 x2 x3 x4 x5)) ∗ owns (c : Thread nD τ) arg11 fullShare (k1_pay1 (k1_pay38 x0 x1 x2 x3 x4 x5) xs1)) -∗ K ⟨⟩))
      ⊢ wp frame (wpE (defs₀ (F := F)) Variants.none c none) E (cc1_swiglu_fp8 i arg2 harg2 arg3 harg3 arg4 harg4 arg5 harg5 arg6 harg6 arg7 harg7 arg8 harg8 arg9 harg9 arg10 harg10 arg11 harg11) K := by
  simp only [cc1_swiglu_fp8_eq_skeleton]; unfold cc1_swiglu_fp8_skel
  simp only [k1_part10_eq_skeleton, k1_part9_eq_skeleton, k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  subst hf0 hf1 hf2 hf3 hf4 hf5 hfs0 hfs1
  sl_exec (disch := first | sl_exact hc0 | sl_exact hc1 | sl_exact hc2)
  sl_step
  have hH : View.read (Elt F) arg10.view (arg10.view.writes (Elt F) fs0 (run1_C.sl.HS0_1 c i arg2 arg3 arg4 arg5 arg6 arg7 f0 f1 f2 f3 f4 f5))
      = putSlab (View.read (Elt F) arg10.view fs0) (i 1).val (k1_pay37 (View.read (Elt F) arg2.view f0) (View.read (Elt F) arg3.view f1) (View.read (Elt F) arg4.view f2) (View.read (Elt F) arg5.view f3) (View.read (Elt F) arg6.view f4) (View.read (Elt F) arg7.view f5)) := by
    exact (read_putSlab arg10.view fs0 i (k1_off1_inb i) _).trans (congrArg _ (congr6 k1_pay37 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))))
  have hV : run1_C.sl.v41 c arg2 arg3 arg4 arg5 arg6 arg7 arg11 f0 f1 f2 f3 f4 f5 fs1
      = k1_pay1 (k1_pay38 (View.read (Elt F) arg2.view f0) (View.read (Elt F) arg3.view f1) (View.read (Elt F) arg4.view f2) (View.read (Elt F) arg5.view f3) (View.read (Elt F) arg6.view f4) (View.read (Elt F) arg7.view f5)) (View.read (Elt F) arg11.view fs1) := by
    exact (View.readCov_unit_lit arg11.view inb_S512x128_S512x128_0_0 _ (by decide)).trans (congrArg₂ k1_pay1 (congr6 k1_pay38 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))) (readAt_whole arg11.view fs1 inb_S512x128_S512x128_0_0 (by decide)))
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    exact (read_store_whole arg8.view f6 inb_S512x1_S512x1_0_0 _ (by decide)).trans (congrArg k1_pay3 hV)
  isplitl [H7]
  · iexists _; isplitr; swap; · iexact H7
    ipureintro
    unfold run1_C.sl.r_9 run1_C.sl.r_8 run1_C.sl.r_7 run1_C.sl.r_6 run1_C.sl.r_5 run1_C.sl.r_4 run1_C.sl.r_3 run1_C.sl.r_2
    rw [← hV, ← hH]
    generalize run1_C.sl.v41 c arg2 arg3 arg4 arg5 arg6 arg7 arg11 f0 f1 f2 f3 f4 f5 fs1 = A
    funext y
    refine (View.read_writes_apply_eq_canon _ _ y _ (View.cover_of_tiled_head _ _ _ (by rfl) y)).trans
      (View.canon_eq_of_allAt _ y _ (View.cover_of_tiled_head _ _ _ (by rfl) y) ?_)
    iterate 26
      refine View.allAt_cons_unit _ _ _ _ _ (tile_hc' _ _ _ (by decide) (by decide) _ ?_ y) ?_
      · first
          | unfold run1_C.sl.v
          | unfold run1_C.sl.v_1
          | unfold run1_C.sl.v_2
          | unfold run1_C.sl.v87
          | unfold run1_C.sl.v97
          | unfold run1_C.sl.v107
          | unfold run1_C.sl.v117
          | unfold run1_C.sl.v127
          | unfold run1_C.sl.v137
          | unfold run1_C.sl.v157
          | unfold run1_C.sl.v167
          | unfold run1_C.sl.v177
          | unfold run1_C.sl.v187
          | unfold run1_C.sl.v197
          | unfold run1_C.sl.v207
          | unfold run1_C.sl.v217
          | unfold run1_C.sl.v227
          | unfold run1_C.sl.v237
          | unfold run1_C.sl.v247
          | unfold run1_C.sl.v257
          | unfold run1_C.sl.v267
          | unfold run1_C.sl.v277
          | unfold run1_C.sl.v287
          | unfold run1_C.sl.v297
          | unfold run1_C.sl.v307
          | unfold run1_C.sl.v317
          | unfold run1_C.sl.v327
          | unfold run1_C.sl.v337
        generalize arg10.view.writes (Elt F) fs0 (run1_C.sl.HS0_1 c i arg2 arg3 arg4 arg5 arg6 arg7 f0 f1 f2 f3 f4 f5) = g
        rfl
    exact View.allAt_nil _ _
  isplitl [HS0]
  · iexists _; isplitr; swap; · iexact HS0
    ipureintro
    exact hH
  iexists _; isplitr; swap; · iexact HS1
  ipureintro
  exact (read_store_whole arg11.view fs1 inb_S512x128_S512x128_0_0 _ (by decide)).trans (congrArg₂ k1_pay1 (congr6 k1_pay38 (readAt_whole arg2.view f0 inb_S512x16384_S512x16384_0_0 (by decide)) (readAt_whole arg3.view f1 inb_S512x1_S512x1_0_0 (by decide)) (readAt_whole arg4.view f2 inb_S16384x256_S16384x256_0_0 (by decide)) (readAt_whole arg5.view f3 inb_S16384x256_S16384x256_0_0 (by decide)) (readAt_whole arg6.view f4 inb_S1x256_S1x256_0_0 (by decide)) (readAt_whole arg7.view f5 inb_S1x256_S1x256_0_0 (by decide))) (readAt_whole arg11.view fs1 inb_S512x128_S512x128_0_0 (by decide)))

end Cert.KernelIdeal.Run

end
-- ==== Proof.KI.Dat1.lean ====
/- The second call's proof data: what its scratch carries from point to point, what its outputs hold, and that the body keeps both. -/
module

public import proofs.«01_k».proof.Proof.KI.Body

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-! ## What the second call's scratch holds, point by point -/

/-- Grid point number `n` (numbers past the grid wrap around; none is used). -/
def pt (n : ℕ) : Fin cfg1.N := ⟨n % 936, lt_of_lt_of_eq (Nat.mod_lt _ (by decide)) N_1.symm⟩

theorem pt_val (t : Fin cfg1.N) : pt t.val = t :=
  Fin.ext (Nat.mod_eq_of_lt (lt_of_lt_of_eq t.isLt N_1))

/-- The slab of the second stage's values computed at point `t`. -/
def slabAt (c : Dev nD) (t : Fin cfg1.N) : Vec F S1x512x256 .f32 := k1_pay37 (iblk1 V c 0 t) (iblk1 V c 1 t) (iblk1 V c 2 t) (iblk1 V c 3 t) (iblk1 V c 4 t) (iblk1 V c 5 t)
/-- That block's maximum of absolute values, over the lanes a running maximum keeps. -/
def partAt (c : Dev nD) (t : Fin cfg1.N) : Vec F S512x128 .f32 := k1_pay38 (iblk1 V c 0 t) (iblk1 V c 1 t) (iblk1 V c 2 t) (iblk1 V c 3 t) (iblk1 V c 4 t) (iblk1 V c 5 t)
/-- The running maximum as the first column block of a row block starts it. -/
def startAt (c : Dev nD) (t : Fin cfg1.N) : Vec F S512x128 .f32 := k1_pay39 (iblk1 V c 0 t) (iblk1 V c 1 t) (iblk1 V c 2 t) (iblk1 V c 3 t) (iblk1 V c 4 t) (iblk1 V c 5 t)

/-- The running maximum after point `n`. -/
def acc (c : Dev nD) : ℕ → Vec F S512x128 .f32
  | 0 => startAt V c (pt 0)
  | n + 1 => if (n + 1) % 26 = 0 then startAt V c (pt (n + 1)) else k1_pay1 (partAt V c (pt (n + 1))) (acc c n)

theorem acc_first (c : Dev nD) (n : ℕ) (h : n % 26 = 0) : acc V c n = startAt V c (pt n) := by
  cases n with
  | zero => rfl
  | succ n => simp only [acc]; rw [if_pos h]

theorem acc_next (c : Dev nD) (n : ℕ) (h : n % 26 ≠ 0) : acc V c n = k1_pay1 (partAt V c (pt n)) (acc V c (n - 1)) := by
  cases n with
  | zero => exact absurd rfl h
  | succ n => simp only [acc]; rw [if_neg h]; rfl

/-- The whole stack of slabs of the row block that point `t` is in. -/
def stackAt (c : Dev nD) (t : Fin cfg1.N) : Vec F S26x512x256 .f32 :=
  fun y => slabAt V c (pt (t.val / 26 * 26 + (y 0).val)) (ix3 0 (y 1) (y 2))

/-- What the scratch holds before point `n`: the slabs of the row block's points so far, and (but before a row block's
    first point) the running maximum after the point before. -/
def ScrOk (c : Dev nD) (n : ℕ) (f : Vec F S26x512x256 .f32) (g : Vec F S512x128 .f32) : Prop :=
  (∀ y : S26x512x256.Idx, (y 0).val < n % 26 → f y = slabAt V c (pt (n / 26 * 26 + (y 0).val)) (ix3 0 (y 1) (y 2)))
    ∧ (n % 26 ≠ 0 → g = acc V c (n - 1))

theorem ScrOk.zero (c : Dev nD) (n : ℕ) (h : n % 26 = 0) (f g) : ScrOk V c n f g :=
  ⟨fun y hy => absurd hy (by omega), fun hn => absurd h hn⟩

theorem ScrOk.step {c : Dev nD} {n : ℕ} {f g} (h : ScrOk V c n f g) :
    ScrOk V c (n + 1) (putSlab f (n % 26) (slabAt V c (pt n))) (acc V c n) := by
  by_cases h25 : n % 26 = 25
  · exact ScrOk.zero V c (n + 1) (by omega) _ _
  refine ⟨fun y hy => ?_, fun _ => rfl⟩
  have e : (n + 1) / 26 = n / 26 := by omega
  rw [e]
  unfold putSlab
  split
  · next hj =>
    rw [hj]
    have : n / 26 * 26 + n % 26 = n := by omega
    rw [this]
  · next hj => exact h.1 y (by omega)

theorem ScrOk.full {c : Dev nD} {t : Fin cfg1.N} {f g} (h : ScrOk V c t.val f g) (h25 : t.val % 26 = 25) :
    putSlab f (t.val % 26) (slabAt V c t) = stackAt V c t := by
  funext y
  have hy : (y 0).val < 26 := (y 0).isLt
  unfold putSlab stackAt
  split
  · next hj =>
    rw [hj]
    have : t.val / 26 * 26 + t.val % 26 = t.val := by omega
    rw [this, pt_val]
  · next hj => exact h.1 y (by omega)

/-- The region invariant before point `n`: the scratch as `ScrOk` says, the first call's staging buffers and the
    generator register at anything. -/
def PhiS (c : Dev nD) (n : ℕ) : sProp 𝕄 :=
  iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ f g, ⌜ScrOk V c n f g⌝ ∗ owns (c : Thread nD τ) (Memref.whole cc1_scratch0 : Memref sig .tc .vmem S26x512x256 .f32) fullShare f
      ∗ owns (c : Thread nD τ) (Memref.whole cc1_scratch1 : Memref sig .tc .vmem S512x128 .f32) fullShare g)) ∗ ∃ r, prngReg c r)

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) (Memref.whole cc1_scratch0 : Memref sig .tc .vmem S26x512x256 .f32) fullShare d) ∗ (∃ d, owns (c : Thread nD τ) (Memref.whole cc1_scratch1 : Memref sig .tc .vmem S512x128 .f32) fullShare d)) ∗ (∃ r, prngReg c r)) := by
  unfold Pipeline.ΦA; rw [scopedRest1_eq]; simp only [owns_whole]; try rfl

/-- What the launch hands the region is the invariant before the first point, -/
theorem PhiS_in (c : Dev nD) : Pipeline.ΦA spec1 c ⊢ PhiS V c 0 := by
  rw [PhiA1_eq]; unfold PhiS
  iintro ⟨⟨H0, H1, H2, H3, H4, H5, ⟨%f, HS0⟩, ⟨%g, HS1⟩⟩, Hg⟩
  isplitr [Hg]; swap; · iexact Hg
  isplitr [HS0 HS1]
  · isplitl [H0]; · iexact H0
    isplitl [H1]; · iexact H1
    isplitl [H2]; · iexact H2
    isplitl [H3]; · iexact H3
    isplitl [H4]; · iexact H4
    iexact H5
  iexists f; iexists g
  isplitr; · ipureintro; exact ScrOk.zero V c 0 rfl f g
  isplitl [HS0]; · iexact HS0
  iexact HS1

/-- and the invariant at any point gives it back, the named contents forgotten. -/
theorem PhiS_out (c : Dev nD) (n : ℕ) : PhiS V c n ⊢ Pipeline.ΦA spec1 c := by
  rw [PhiA1_eq]; unfold PhiS
  iintro ⟨⟨⟨H0, H1, H2, H3, H4, H5⟩, ⟨%f, %g, -, HS0, HS1⟩⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  iexists _; iexact HS1

/-! ## The pipeline's proof data -/

/-- The proof data of the second call on core `c`: the arrays as the region finds them (`V`); after the body at point `t`
    each input's buffer at its block, and each output's at the scales and codes of the row block's whole stack (read only
    at a row block's last point: elsewhere the window is idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (acc V c t.val)
    | ⟨7, _⟩ => hcOut (k1_pay5 (k1_pay4 (acc V c t.val))) (stackAt V c t)
  Φ t := PhiS V c t.val
  q w := Pipeline.shareOf spec1 w
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay3 (acc V c t.val) := by dsimp only [dat1]
theorem after1_7 (c : Dev nD) (t : Fin cfg1.N) : (dat1 V c).after 7 t = hcOut (k1_pay5 (k1_pay4 (acc V c t.val))) (stackAt V c t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem coords1 (t : Fin cfg1.N) : (grid1.coords t 1).val = t.val % 26 := by
  have e1 : (grid1.coords t 1).val = t.val / 1 % 26 := Pipeline.Grid.coords_val t 1 (by decide) rfl
  rw [e1, Nat.div_one]

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (cfg1.grid.coords t) = false from rfl, after1_5]
theorem idle1_6 (t : Fin cfg1.N) : cfg1.idle 6 (cfg1.grid.coords t) = !(k1_cond3 (grid1.coords t) == 1#1) := rfl
theorem leaves1_6_live (c : Dev nD) (t : Fin cfg1.N) (h : t.val % 26 = 25) :
    (dat1 V c).leavesExact 6 t = owns (c : Thread nD τ) (st1_6 t) fullShare ((dat1 V c).after 6 t) := by
  have hi : cfg1.idle 6 (cfg1.grid.coords t) = false := by
    have e : k1_cond3 (grid1.coords t) = 1#1 := (hcond1_2 t).mpr h
    rw [idle1_6, e]; decide
  unfold Dat.leavesExact; rw [hi]
theorem leaves1_6_idle (c : Dev nD) (t : Fin cfg1.N) (h : ¬t.val % 26 = 25) :
    (dat1 V c).leavesExact 6 t = iprop(∃ d, owns (c : Thread nD τ) (st1_6 t) fullShare ((dat1 V c).before 6 t d)) :=
  (dat1 V c).leavesExact_idle 6 t
    (by
      have e : ¬k1_cond3 (grid1.coords t) = 1#1 := fun e => h ((hcond1_2 t).mp e)
      rw [idle1_6, beq_eq_false_iff_ne.mpr e]; rfl)
    (by
      cases hf : (cfg1.win 6).flush t with
      | false => rfl
      | true => exact absurd ((flush1_6 t).mp hf) h)

theorem idle1_7 (t : Fin cfg1.N) : cfg1.idle 7 (cfg1.grid.coords t) = !(k1_cond3 (grid1.coords t) == 1#1) := rfl
theorem leaves1_7_live (c : Dev nD) (t : Fin cfg1.N) (h : t.val % 26 = 25) :
    (dat1 V c).leavesExact 7 t = owns (c : Thread nD τ) (st1_7 t) fullShare ((dat1 V c).after 7 t) := by
  have hi : cfg1.idle 7 (cfg1.grid.coords t) = false := by
    have e : k1_cond3 (grid1.coords t) = 1#1 := (hcond1_2 t).mpr h
    rw [idle1_7, e]; decide
  unfold Dat.leavesExact; rw [hi]
theorem leaves1_7_idle (c : Dev nD) (t : Fin cfg1.N) (h : ¬t.val % 26 = 25) :
    (dat1 V c).leavesExact 7 t = iprop(∃ d, owns (c : Thread nD τ) (st1_7 t) fullShare ((dat1 V c).before 7 t d)) :=
  (dat1 V c).leavesExact_idle 7 t
    (by
      have e : ¬k1_cond3 (grid1.coords t) = 1#1 := fun e => h ((hcond1_2 t).mp e)
      rw [idle1_7, beq_eq_false_iff_ne.mpr e]; rfl)
    (by
      cases hf : (cfg1.win 7).flush t with
      | false => rfl
      | true => exact absurd ((flush1_7 t).mp hf) h)

set_option maxHeartbeats 4000000 in
/-- The body at any point, in its three cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.castSucc = PhiS V c t.val from rfl, show (dat1 V c).Φ t.succ = PhiS V c (t.val + 1) from rfl,
    leaves1_0, leaves1_1, leaves1_2, leaves1_3, leaves1_4, leaves1_5]
  unfold PhiS
  have hj := coords1 t
  by_cases h25 : t.val % 26 = 25
  · rw [leaves1_6_live V c t h25, leaves1_7_live V c t h25]
    have h0 : ¬t.val % 26 = 0 := by omega
    have hacc : acc V c t.val = k1_pay1 (k1_pay38 (iblk1 V c 0 t) (iblk1 V c 1 t) (iblk1 V c 2 t) (iblk1 V c 3 t) (iblk1 V c 4 t) (iblk1 V c 5 t)) (acc V c (t.val - 1)) := by rw [acc_next V c _ h0, pt_val]; rfl
    iintro ⟨⟨⟨HR, ⟨%f, %g, %hok, HS0, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs := hok.step V
    rw [pt_val] at hs
    have hg := hok.2 h0
    have hfull := hok.full V h25
    rw [after1_6, after1_7, ← hfull]
    rw [← hj] at hs
    rw [hacc] at hs
    rw [hacc, ← hj]
    subst hg
    iapply (run1_C c (grid1.coords t) _ _ _ _ _ _ _ _ _ _ _ _ _ _ _ _ _ _ _ _ (fun h => h0 ((hcond1_0 t).mp h)) ((hcond1_1 t).mpr (by omega)) ((hcond1_2 t).mpr h25) (iblk1 V c 0 t) (iblk1 V c 1 t) (iblk1 V c 2 t) (iblk1 V c 3 t) (iblk1 V c 4 t) (iblk1 V c 5 t) f (acc V c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HR Hg HS0 HS1]
    · isplitr [Hg]; swap; · iexact Hg
      isplitl [HR]; · iexact HR
      iexists _; iexists _
      isplitr; · ipureintro; exact hs
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [leaves1_6_idle V c t h25, leaves1_7_idle V c t h25]
    by_cases h0 : t.val % 26 = 0
    · have hacc : acc V c t.val = k1_pay39 (iblk1 V c 0 t) (iblk1 V c 1 t) (iblk1 V c 2 t) (iblk1 V c 3 t) (iblk1 V c 4 t) (iblk1 V c 5 t) := by rw [acc_first V c _ h0, pt_val]; rfl
      iintro ⟨⟨⟨HR, ⟨%f, %g, %hok, HS0, HS1⟩⟩, Hg⟩, Ho, ⟨%d0, H0⟩, ⟨%d1, H1⟩, ⟨%d2, H2⟩, ⟨%d3, H3⟩, ⟨%d4, H4⟩, ⟨%d5, H5⟩, H6, H7⟩
      have hs := hok.step V
      rw [pt_val] at hs
      rw [← hj] at hs
      rw [hacc] at hs
      iapply (run1_A c (grid1.coords t) _ _ _ _ _ _ _ _ _ _ _ _ _ _ _ _ _ _ _ _ ((hcond1_0 t).mpr h0) (fun h => absurd ((hcond1_1 t).mp h) (by omega)) (fun h => h25 ((hcond1_2 t).mp h)) (iblk1 V c 0 t) (iblk1 V c 1 t) (iblk1 V c 2 t) (iblk1 V c 3 t) (iblk1 V c 4 t) (iblk1 V c 5 t) f g Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HR Hg HS0 HS1]
      · isplitr [Hg]; swap; · iexact Hg
        isplitl [HR]; · iexact HR
        iexists _; iexists _
        isplitr; · ipureintro; exact hs
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hacc : acc V c t.val = k1_pay1 (k1_pay38 (iblk1 V c 0 t) (iblk1 V c 1 t) (iblk1 V c 2 t) (iblk1 V c 3 t) (iblk1 V c 4 t) (iblk1 V c 5 t)) (acc V c (t.val - 1)) := by rw [acc_next V c _ h0, pt_val]; rfl
      iintro ⟨⟨⟨HR, ⟨%f, %g, %hok, HS0, HS1⟩⟩, Hg⟩, Ho, ⟨%d0, H0⟩, ⟨%d1, H1⟩, ⟨%d2, H2⟩, ⟨%d3, H3⟩, ⟨%d4, H4⟩, ⟨%d5, H5⟩, H6, H7⟩
      have hs := hok.step V
      rw [pt_val] at hs
      have hg := hok.2 h0
      rw [← hj] at hs
      rw [hacc] at hs
      subst hg
      iapply (run1_B c (grid1.coords t) _ _ _ _ _ _ _ _ _ _ _ _ _ _ _ _ _ _ _ _ (fun h => h0 ((hcond1_0 t).mp h)) ((hcond1_1 t).mpr (by omega)) (fun h => h25 ((hcond1_2 t).mp h)) (iblk1 V c 0 t) (iblk1 V c 1 t) (iblk1 V c 2 t) (iblk1 V c 3 t) (iblk1 V c 4 t) (iblk1 V c 5 t) f (acc V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HR Hg HS0 HS1]
      · isplitr [Hg]; swap; · iexact Hg
        isplitl [HR]; · iexact HR
        iexists _; iexists _
        isplitr; · ipureintro; exact hs
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KI.Run.lean ====
/- The whole program's run: its host reshapes and its two calls in order, each buffer's contents at every boundary. -/
module

public import proofs.«01_k».proof.Proof.KI.Dat1

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS (V3 m ρ) c 0 from rfl]
    refine BIBase.Entails.trans ?_ (PhiS_in (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = PhiS (V3 m ρ) c (Fin.last cfg1.N).val from rfl]
    refine (PhiS_out (V3 m ρ) c _).trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every execution of @main terminates without fault, every buffer that outlives the regions ending at the last
    boundary's contents `W5`, every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run m ρ)

end Cert.KernelIdeal.Run

end
-- ==== Proof.V.Rows.lean ====
/-
  Operations on a matrix and on a column of one value per row, read at one entry, for any extents: a reduction along the
  columns (a row's maximum, a row's sum of words), a vector as a column, and a column repeated along the rows.
-/
module

public import Idealize.ShloMosaic.Lib.Pointwise
public import Idealize.ShloMosaic.Lib.ValueIdx
public import Idealize.ShloMosaic.Lib.Pipeline.Value
public import Idealize.ShloMosaic.PureOps.Ideal.Laws

@[expose] public section

noncomputable section

namespace Cert.V

open Idealize.ShloMosaic

/-- The source index of a row `j` and a column `k`. -/
theorem lift_row {n m : ℕ} (h : Shape.Reduces ⟨2, ![n, m]⟩ [1] ⟨1, ![n]⟩) (j : (⟨1, ![n]⟩ : Shape).Idx)
    (k : Fin m) : h.lift j k = (ix2 (j 0) k : (⟨2, ![n, m]⟩ : Shape).Idx) := by
  funext a
  fin_cases a <;> rfl

/-- A maximum along the columns, at row `j`: the maximum of that row's entries, from the start's value. -/
theorem rowmax {n m : ℕ} (src : FVec Ideal ⟨2, ![n, m]⟩ .f32) (acc : BitVec 32)
    (h : Shape.Reduces ⟨2, ![n, m]⟩ [1] ⟨1, ![n]⟩) (hφ : FKind.Formats .f32)
    (hacc : acc = FKind.maximumf.neutral .f32 hφ) (j : (⟨1, ![n]⟩ : Shape).Idx) :
    multiReduction .maximumf [1] ⟨1, ![n]⟩ src acc h hφ hacc j
      = (Finset.univ : Finset (Fin m)).fold max (Ideal.ofBits .f32 acc) fun k => src (ix2 (j 0) k) := by
  refine (Ideal.multiReduction_maximumf_single src acc h hφ hacc j).trans ?_
  exact congrArg (fun f => Finset.fold max (Ideal.ofBits .f32 acc) f (Finset.univ : Finset (Fin m)))
    (funext fun k => congrArg src (lift_row h j k))

/-- A sum of words along the columns, at row `j`: the sum of that row's words. -/
theorem rowsum {n m : ℕ} (src : IVec ⟨2, ![n, m]⟩ 32) (acc : BitVec 32)
    (h : Shape.Reduces ⟨2, ![n, m]⟩ [1] ⟨1, ![n]⟩) (hacc : acc = IKind.add.neutral) (j : (⟨1, ![n]⟩ : Shape).Idx) :
    multiReductionI .add [1] ⟨1, ![n]⟩ src acc h hacc j
      = (Finset.univ : Finset (Fin m)).fold IntOp.addi acc fun k => src (ix2 (j 0) k) := by
  rw [multiReductionI_eq_fold]
  refine (h.fold_filter_drop_single IntOp.addi acc src j).trans ?_
  exact congrArg (fun f => Finset.fold IntOp.addi acc f (Finset.univ : Finset (Fin m)))
    (funext fun k => congrArg src (lift_row h j k))

/-- A vector cast to a column reads, at row `j`, the vector's entry. -/
theorem col_cast {α : Type} {n : ℕ} (v : (⟨1, ![n]⟩ : Shape).Idx → α) (h : (⟨1, ![n]⟩ : Shape).ShapeCasts ⟨2, ![n, 1]⟩)
    (j : (⟨2, ![n, 1]⟩ : Shape).Idx) : shapeCast ⟨2, ![n, 1]⟩ v h j = v (ix1 (j 0)) :=
  Idealize.ShloMosaic.shapeCast_apply v h j _ (by
    have h1 : (j 1).val = 0 := by have : (j 1).val < 1 := (j 1).isLt; omega
    rw [Shape.rowMajor_val_two, Shape.rowMajor_val_one]
    show (j 0).val = (j 0).val * 1 + (j 1).val
    omega)

/-- A column repeated along the rows reads, at an entry, the column's value at that row. -/
theorem bcast_col {α : Type} {n m : ℕ} (v : (⟨2, ![n, 1]⟩ : Shape).Idx → α)
    (h : (⟨2, ![n, 1]⟩ : Shape).Broadcasts ⟨2, ![n, m]⟩) (j : (⟨2, ![n, m]⟩ : Shape).Idx) :
    broadcastTo ⟨2, ![n, m]⟩ v h j = v (ix2 (j 0) 0) := by
  refine Idealize.ShloMosaic.broadcastTo_apply v h j (ix2 (j 0) 0) fun a => ?_
  match a with
  | ⟨0, _⟩ =>
    show (j 0).val = if n = 1 then 0 else (j 0).val
    split
    · have : (j 0).val < n := (j 0).isLt
      omega
    · rfl
  | ⟨1, _⟩ => rfl

end Cert.V

end
-- ==== Proof.V.Scale.lean ====
/-
  The quantiser's scalar functions over the extended reals. From a row's largest magnitude `a` the exponent `expo a`
  is that of the smallest power of two above `a / 448`, and 0 outside the range of normal numbers; `scl a` and `inv a`
  are the power of two and its inverse. `eword a` is the same exponent as the kernel computes it: a count of the
  powers of two that `a / 448` reaches.
-/
module

public import Idealize.ShloMosaic.PureOps.Ideal.Laws
public import Idealize.ShloMosaic.Lib.Pointwise
public import proofs.«01_k».proof.Proof.V.Rows

@[expose] public section

noncomputable section

namespace Cert.V

open Idealize.ShloMosaic

/-- The f32 constant nearest 1/448. -/
abbrev c448 : EReal := Ideal.ofBits .f32 0x3B124925#32

/-- The number of `k` in 1..255 whose power of two (2^(k-127), from 253 on 2^126) is at most `v`, as a word. -/
def reached (v : EReal) : BitVec 32 :=
  (Finset.univ : Finset (Fin 256)).fold IntOp.addi 0#32 fun x =>
    Scalar.select (IntOp.andi
      (Ideal.cmp .oge v (Ideal.ofBits .f32 (IntOp.shli .vector (IntOp.minsi (BitVec.ofNat 32 x.val) 253#32) 23#32)))
      (IntOp.cmpi .sgt (BitVec.ofNat 32 x.val) 0#32)) 1#32 0#32

/-- The exponent word of a row whose count is `w` and whose largest magnitude is `a`. -/
def ew (w : BitVec 32) (a : EReal) : BitVec 32 :=
  Scalar.select (IntOp.ori (IntOp.ori (IntOp.cmpi .eq w 0#32) (IntOp.cmpi .eq w 255#32)) (Ideal.cmp .oeq a 0)) 0#32
    (IntOp.subi w 126#32)

/-- The kernel's exponent word of a row whose largest magnitude is `a`. -/
def eword (a : EReal) : BitVec 32 := ew (reached (a * c448)) a

/-- The exponent, as an integer. -/
def expo (a : EReal) : ℤ :=
  if a = 0 then 0 else
    if (((2 : ℝ) ^ (-126 : ℤ) : ℝ) : EReal) ≤ a * c448 ∧ a * c448 < (((2 : ℝ) ^ (126 : ℤ) : ℝ) : EReal) then
      ⌊Real.log (a * c448).toReal / Real.log 2⌋ + 1 else 0

/-- A row's scale. -/
def scl (a : EReal) : EReal := (((2 : ℝ) ^ expo a : ℝ) : EReal)

/-- Its inverse. -/
def inv (a : EReal) : EReal := (((2 : ℝ) ^ (-expo a) : ℝ) : EReal)

/-- A code: the entry times the inverse scale, clipped to ±448. -/
def code (x i : EReal) : EReal :=
  min (Ideal.ofBits .f32 0x43E00000#32) (max (Ideal.ofBits .f32 0xC3E00000#32) (x * i))

/-- The largest of a row of `m` values. -/
def rmax {m : ℕ} (f : Fin m → EReal) : EReal :=
  (Finset.univ : Finset (Fin m)).fold max (Ideal.ofBits .f32 0xFF800000#32) f

/-- A value's magnitude. -/
def mag (x : EReal) : EReal := max x (-x)

/-- The largest magnitude of a row of `m` entries. -/
def amax {m : ℕ} (f : Fin m → EReal) : EReal := rmax fun k => mag (f k)

/-- A row's largest magnitude, through the reduction and the cast to a column. -/
theorem colmax (n m : ℕ) (x : FVec Ideal ⟨2, ![n, m]⟩ .f32) (acc : BitVec 32)
    (h : Shape.Reduces ⟨2, ![n, m]⟩ [1] ⟨1, ![n]⟩) (hφ : FKind.Formats .f32)
    (hacc : acc = FKind.maximumf.neutral .f32 hφ) (hw : acc = 0xFF800000#32)
    (hc : (⟨1, ![n]⟩ : Shape).ShapeCasts ⟨2, ![n, 1]⟩) (j : (⟨2, ![n, 1]⟩ : Shape).Idx) :
    shapeCast ⟨2, ![n, 1]⟩ (multiReduction .maximumf [1] ⟨1, ![n]⟩ (absf x) acc h hφ hacc) hc j
      = amax fun k : Fin m => x (ix2 (j 0) k) := by
  refine (col_cast _ hc j).trans ((rowmax _ acc h hφ hacc _).trans ?_)
  rw [hw]
  rfl

/-- The reference's exponent of a row whose largest magnitude is `a`, by logarithms. -/
def rexp (a : EReal) : EReal :=
  Scalar.select (Ideal.cmp .oeq a (Ideal.ofBits .f32 0x00000000#32)) (Ideal.ofBits .f32 0x00000000#32)
    (Scalar.select (IntOp.andi (Ideal.cmp .oge (a * c448) (Ideal.ofBits .f32 0x00800000#32))
        (Ideal.cmp .olt (a * c448) (Ideal.ofBits .f32 0x7E800000#32)))
      (Ideal.liftRound Int.floor (Ideal.div (Ideal.log (a * c448)) (Ideal.log (Ideal.ofBits .f32 0x40000000#32)))
        + Ideal.ofBits .f32 0x3F800000#32)
      (Ideal.ofBits .f32 0x00000000#32))

/-- SwiGLU of one entry: `g` and `u` the products of codes, `x` the row's scale, `sg` and `su` the columns' scales. -/
def swi (g u x sg su : EReal) : EReal :=
  g * x * sg * Ideal.logistic (g * x * sg) * (u * x * su)

end Cert.V

end
-- ==== Proof.V.KPay.lean ====
/-
  The kernel's payloads, read at one entry: the words of a row's exponent, its power-of-two scales, the codes, a block
  of the activation and its running maxima.
-/
module

public import proofs.«01_k».proof.Proof.Gen.KernelIdeal.Skeleton
public import proofs.«01_k».proof.Proof.V.Rows
public import proofs.«01_k».proof.Proof.V.Scale

@[expose] public section

set_option maxRecDepth 65536

noncomputable section

namespace Cert.KernelIdeal.V

open Cert.KernelIdeal Cert.KernelIdeal.Gen Idealize.ShloMosaic Cert.V

/-! ## The quantiser of the input -/

/-- The widened input is the input. -/
theorem k0_ext (v0 : Vec Ideal S256x16384 .bf16) (j : S256x16384.Idx) : k0_pay3 v0 j = v0 j := by
  unfold k0_pay3
  pointwise

/-- A row's maximum of magnitudes. -/
theorem k0_max (v0 : Vec Ideal S256x16384 .bf16) (r : Fin 256) :
    multiReduction (F := Ideal) .maximumf [1] S256 (absf (k0_pay3 v0)) 0xFF800000#32
      reduces_S256x16384_S256 (.inl rfl) rfl (ix1 r) = amax fun k : Fin 16384 => v0 (ix2 r k) := by
  have e : ∀ i, k0_pay3 v0 i = v0 i := k0_ext v0
  generalize k0_pay3 v0 = x at e
  refine (rowmax (n := 256) (m := 16384) _ _ _ _ _ _).trans ?_
  unfold amax rmax
  refine congrArg (fun f => Finset.fold max (Ideal.ofBits .f32 0xFF800000#32) f (Finset.univ : Finset (Fin 16384)))
    (funext fun k => ?_)
  exact congrArg mag (e (ix2 r k))

/-- Whether a power of two counts, for a row: it is reached, and it is not the 0th. -/
theorem mark256 (v4 : FVec Ideal S256 .f32) (r : Fin 256) (x : Fin 256) :
    select (andi (cmpf .oge (broadcastTo S256x256
      (mulf (shapeCast S256x1 v4 shapeCasts_S256_S256x1) (broadcast S256x1 (Scalar.ofBits (F := Ideal) .f32 0x3B124925#32)))
        broadcasts_S256x1_S256x256)
      (broadcastTo S256x256 (bitcastToFloat .f32 (shli (minsi (iota .tc S1x256 32 [1] iota_S1x256_d1_w32)
        (broadcast S1x256 253#32)) (broadcast S1x256 23#32))) broadcasts_S1x256_S256x256))
      (broadcastTo S256x256 (cmpi .sgt (iota .tc S1x256 32 [1] iota_S1x256_d1_w32) (broadcast S1x256 0#32))
        broadcasts_S1x256_S256x256)) (broadcast S256x256 1#32) (broadcast S256x256 0#32) (ix2 r x : S256x256.Idx)
    = Scalar.select (IntOp.andi
      (Ideal.cmp .oge (v4 (ix1 r) * c448)
        (Ideal.ofBits .f32 (IntOp.shli .vector (IntOp.minsi (BitVec.ofNat 32 x.val) 253#32) 23#32)))
      (IntOp.cmpi .sgt (BitVec.ofNat 32 x.val) 0#32)) 1#32 0#32 := by
  pointwise

/-- The exponent words of a column of counts and a column of largest magnitudes. -/
def ewVec (n : ℕ) (v25 : IVec ⟨2, ![n, 1]⟩ 32) (v5 : FVec Ideal ⟨2, ![n, 1]⟩ .f32) : IVec ⟨2, ![n, 1]⟩ 32 :=
  select (ori (ori (cmpi .eq v25 (broadcast ⟨2, ![n, 1]⟩ 0#32)) (cmpi .eq v25 (broadcast ⟨2, ![n, 1]⟩ 255#32)))
      (cmpf .oeq v5 (broadcast ⟨2, ![n, 1]⟩ (Scalar.ofBits (F := Ideal) .f32 0x00000000#32))))
    (broadcast ⟨2, ![n, 1]⟩ 0#32) (subi v25 (broadcast ⟨2, ![n, 1]⟩ 126#32))

/-- One of them. -/
theorem ewVec_apply (n : ℕ) (v25 : IVec ⟨2, ![n, 1]⟩ 32) (v5 : FVec Ideal ⟨2, ![n, 1]⟩ .f32)
    (j : (⟨2, ![n, 1]⟩ : Shape).Idx) : ewVec n v25 v5 j = ew (v25 j) (v5 j) := by
  unfold ewVec ew
  rw [← Ideal.ofBits_zero_f32]
  rfl

/-- The counts of 256 rows, each the `reached` of its value. -/
theorem count256 (v4 : FVec Ideal S256 .f32) (r : Fin 256) :
    multiReductionI .add [1] S256 (select (andi (cmpf .oge (broadcastTo S256x256
      (mulf (shapeCast S256x1 v4 shapeCasts_S256_S256x1) (broadcast S256x1 (Scalar.ofBits (F := Ideal) .f32 0x3B124925#32)))
        broadcasts_S256x1_S256x256)
      (broadcastTo S256x256 (bitcastToFloat .f32 (shli (minsi (iota .tc S1x256 32 [1] iota_S1x256_d1_w32)
        (broadcast S1x256 253#32)) (broadcast S1x256 23#32))) broadcasts_S1x256_S256x256))
      (broadcastTo S256x256 (cmpi .sgt (iota .tc S1x256 32 [1] iota_S1x256_d1_w32) (broadcast S1x256 0#32))
        broadcasts_S1x256_S256x256)) (broadcast S256x256 1#32) (broadcast S256x256 0#32)) 0#32
    reduces_S256x256_S256 rfl (ix1 r) = reached (v4 (ix1 r) * c448) := by
  refine (rowsum (n := 256) (m := 256) _ _ _ _ _).trans ?_
  unfold reached
  refine congrArg (fun f => Finset.fold IntOp.addi 0#32 f (Finset.univ : Finset (Fin 256))) (funext fun x => ?_)
  exact mark256 v4 r x

/-- The exponent words of 256 rows of the input, in terms of the rows' largest magnitudes. -/
theorem k0_words (v0 : Vec Ideal S256x16384 .bf16) (v4 : FVec Ideal S256 .f32)
    (h : multiReduction (F := Ideal) .maximumf [1] S256 (absf (k0_pay3 v0)) 0xFF800000#32
      reduces_S256x16384_S256 (.inl rfl) rfl = v4) (r : Fin 256) :
    k0_pay4 v0 (ix2 r 0 : S256x1.Idx) = eword (v4 (ix1 r)) := by
  have e : k0_pay4 v0 = ewVec 256 (shapeCast S256x1 (multiReductionI .add [1] S256 (select (andi (cmpf .oge (broadcastTo S256x256
      (mulf (shapeCast S256x1 v4 shapeCasts_S256_S256x1) (broadcast S256x1 (Scalar.ofBits (F := Ideal) .f32 0x3B124925#32)))
        broadcasts_S256x1_S256x256)
      (broadcastTo S256x256 (bitcastToFloat .f32 (shli (minsi (iota .tc S1x256 32 [1] iota_S1x256_d1_w32)
        (broadcast S1x256 253#32)) (broadcast S1x256 23#32))) broadcasts_S1x256_S256x256))
      (broadcastTo S256x256 (cmpi .sgt (iota .tc S1x256 32 [1] iota_S1x256_d1_w32) (broadcast S1x256 0#32))
        broadcasts_S1x256_S256x256)) (broadcast S256x256 1#32) (broadcast S256x256 0#32)) 0#32
    reduces_S256x256_S256 rfl) shapeCasts_S256_S256x1) (shapeCast S256x1 v4 shapeCasts_S256_S256x1) := by
    unfold k0_pay4 ewVec
    dsimp only
    rw [h]
  rw [e, ewVec_apply]
  exact congrArg₂ ew ((col_cast _ _ _).trans (count256 v4 r)) (col_cast _ _ _)

/-- The exponent words of 256 rows of the input: `eword` of each row's largest magnitude. -/
theorem k0_exp (v0 : Vec Ideal S256x16384 .bf16) (r : Fin 256) :
    k0_pay4 v0 (ix2 r 0 : S256x1.Idx) = eword (amax fun k : Fin 16384 => v0 (ix2 r k)) := by
  rw [k0_words v0 _ rfl, k0_max]

/-- A scale's word: 127 plus the exponent, as the exponent field of a float. -/
theorem plus_at {s : Shape} (w : IVec s 32) (j : s.Idx) :
    bitcastToFloat (F := Ideal) .f32 (shli (addi (broadcast s 127#32) w) (broadcast s 23#32)) j
      = Ideal.ofBits .f32 (IntOp.shli .vector (IntOp.addi 127#32 (w j)) 23#32) := rfl

/-- The rows' scales: 127 plus the exponent, as the exponent field of a float. -/
theorem k0_scale (v0 : Vec Ideal S256x16384 .bf16) (r : Fin 256) :
    k0_pay1 (F := Ideal) (k0_pay5 v0) (ix2 r 0 : S256x1.Idx)
      = Ideal.ofBits .f32 (IntOp.shli .vector
          (IntOp.addi 127#32 (eword (amax fun k : Fin 16384 => v0 (ix2 r k)))) 23#32) := by
  have h : k0_pay1 (F := Ideal) (k0_pay5 v0)
      = bitcastToFloat .f32 (shli (addi (broadcast S256x1 127#32) (k0_pay4 v0)) (broadcast S256x1 23#32)) := by
    unfold k0_pay5 k0_pay1
    dsimp only
  rw [h, plus_at, k0_exp]

/-- The codes of the input: each entry times its row's inverse scale, clipped. -/
theorem k0_codes (v0 : Vec Ideal S256x16384 .bf16) (j : S256x16384.Idx) :
    k0_pay2 (F := Ideal) (k0_pay3 v0) (k0_pay4 v0) j
      = code (v0 j) (Ideal.ofBits .f32 (IntOp.shli .vector
          (IntOp.subi 127#32 (eword (amax fun k : Fin 16384 => v0 (ix2 (j 0) k)))) 23#32)) := by
  have e : k0_pay4 v0 (ix2 (j 0) 0 : S256x1.Idx) = eword (amax fun k : Fin 16384 => v0 (ix2 (j 0) k)) := k0_exp v0 _
  unfold k0_pay2
  generalize k0_pay4 v0 = w at e
  have e3 := k0_ext v0 j
  generalize k0_pay3 v0 = x at e3
  rw [← e, ← e3]
  pointwise
  rfl

/-! ## One block of the activation -/

/-- An entry of the block: the two products of a row of codes with a gate and an up column, scaled, through SwiGLU. -/
theorem k1_h (v0 : Vec Ideal S512x16384 .fp8e4m3) (v2 : Vec Ideal S512x1 .f32) (v4 : Vec Ideal S16384x256 .fp8e4m3)
    (v6 : Vec Ideal S16384x256 .fp8e4m3) (v10 : Vec Ideal S1x256 .f32) (v16 : Vec Ideal S1x256 .f32)
    (j : S512x256.Idx) :
    k1_pay36 (F := Ideal) v0 v2 v4 v6 v10 v16 j
      = swi (∑ k : Fin 16384, v0 (ix2 (j 0) k) * v4 (ix2 k (j 1))) (∑ k : Fin 16384, v0 (ix2 (j 0) k) * v6 (ix2 k (j 1)))
          (v2 (ix2 (j 0) 0)) (v10 (ix2 0 (j 1))) (v16 (ix2 0 (j 1))) := by
  unfold k1_pay36
  pointwise
  rfl

/-- The slab stored is the block. -/
theorem k1_slab (v0 : Vec Ideal S512x16384 .fp8e4m3) (v2 : Vec Ideal S512x1 .f32) (v4 : Vec Ideal S16384x256 .fp8e4m3)
    (v6 : Vec Ideal S16384x256 .fp8e4m3) (v10 : Vec Ideal S1x256 .f32) (v16 : Vec Ideal S1x256 .f32)
    (j : S1x512x256.Idx) :
    k1_pay37 (F := Ideal) v0 v2 v4 v6 v10 v16 j = k1_pay36 (F := Ideal) v0 v2 v4 v6 v10 v16 (ix2 (j 1) (j 2)) := by
  unfold k1_pay37
  generalize k1_pay36 (F := Ideal) v0 v2 v4 v6 v10 v16 = h
  pointwise

/-- A block's lane maxima: of each lane the larger magnitude of its two entries. -/
theorem k1_part (v0 : Vec Ideal S512x16384 .fp8e4m3) (v2 : Vec Ideal S512x1 .f32) (v4 : Vec Ideal S16384x256 .fp8e4m3)
    (v6 : Vec Ideal S16384x256 .fp8e4m3) (v10 : Vec Ideal S1x256 .f32) (v16 : Vec Ideal S1x256 .f32)
    (r : Fin 512) (l : Fin 128) :
    k1_pay38 (F := Ideal) v0 v2 v4 v6 v10 v16 (ix2 r l : S512x128.Idx)
      = max (mag (k1_pay36 (F := Ideal) v0 v2 v4 v6 v10 v16 (ix2 r ⟨l.val, by omega⟩ : S512x256.Idx)))
          (mag (k1_pay36 (F := Ideal) v0 v2 v4 v6 v10 v16 (ix2 r ⟨128 + l.val, by omega⟩ : S512x256.Idx))) := by
  unfold k1_pay38
  generalize k1_pay36 (F := Ideal) v0 v2 v4 v6 v10 v16 = h
  pointwise
  rfl

/-- The first point of a row block stores its lane maxima as they are. -/
theorem k1_start (v0 : Vec Ideal S512x16384 .fp8e4m3) (v2 : Vec Ideal S512x1 .f32) (v4 : Vec Ideal S16384x256 .fp8e4m3)
    (v6 : Vec Ideal S16384x256 .fp8e4m3) (v10 : Vec Ideal S1x256 .f32) (v16 : Vec Ideal S1x256 .f32)
    (j : S512x128.Idx) :
    k1_pay39 (F := Ideal) v0 v2 v4 v6 v10 v16 j = k1_pay38 (F := Ideal) v0 v2 v4 v6 v10 v16 j := by
  unfold k1_pay39
  generalize k1_pay38 (F := Ideal) v0 v2 v4 v6 v10 v16 = h
  pointwise

/-- A later point stores the larger of the maxima so far and its own. -/
theorem k1_next (p : FVec Ideal S512x128 .f32) (a : Vec Ideal S512x128 .f32) (j : S512x128.Idx) :
    k1_pay1 (F := Ideal) p a j = max (a j) (p j) := by
  unfold k1_pay1
  pointwise

/-! ## The quantiser of the activation -/

/-- Whether a power of two counts, for a row: it is reached, and it is not the 0th. -/
theorem mark512 (v4 : FVec Ideal S512 .f32) (r : Fin 512) (x : Fin 256) :
    select (andi (cmpf .oge (broadcastTo S512x256
      (mulf (shapeCast S512x1 v4 shapeCasts_S512_S512x1) (broadcast S512x1 (Scalar.ofBits (F := Ideal) .f32 0x3B124925#32)))
        broadcasts_S512x1_S512x256)
      (broadcastTo S512x256 (bitcastToFloat .f32 (shli (minsi (iota .tc S1x256 32 [1] iota_S1x256_d1_w32)
        (broadcast S1x256 253#32)) (broadcast S1x256 23#32))) broadcasts_S1x256_S512x256))
      (broadcastTo S512x256 (cmpi .sgt (iota .tc S1x256 32 [1] iota_S1x256_d1_w32) (broadcast S1x256 0#32))
        broadcasts_S1x256_S512x256)) (broadcast S512x256 1#32) (broadcast S512x256 0#32) (ix2 r x : S512x256.Idx)
    = Scalar.select (IntOp.andi
      (Ideal.cmp .oge (v4 (ix1 r) * c448)
        (Ideal.ofBits .f32 (IntOp.shli .vector (IntOp.minsi (BitVec.ofNat 32 x.val) 253#32) 23#32)))
      (IntOp.cmpi .sgt (BitVec.ofNat 32 x.val) 0#32)) 1#32 0#32 := by
  pointwise

/-- The exponent words of 512 rows: `eword` of the largest of a row's 128 lane maxima. -/
theorem k1_exp (a : Vec Ideal S512x128 .f32) (r : Fin 512) :
    k1_pay2 (F := Ideal) a (ix2 r 0 : S512x1.Idx) = eword (rmax fun k : Fin 128 => a (ix2 r k)) := by
  unfold k1_pay2
  dsimp only
  generalize hv4 : multiReduction (F := Ideal) .maximumf [1] S512 a 0xFF800000#32
    reduces_S512x128_S512 (.inl rfl) rfl = v4
  have e : v4 (ix1 r) = rmax fun k : Fin 128 => a (ix2 r k) := by
    rw [← hv4]
    exact rowmax (n := 512) (m := 128) _ _ _ _ _ _
  generalize hv24 : multiReductionI .add [1] S512 (select (andi (cmpf .oge (broadcastTo S512x256
      (mulf (shapeCast S512x1 v4 shapeCasts_S512_S512x1) (broadcast S512x1 (Scalar.ofBits (F := Ideal) .f32 0x3B124925#32)))
        broadcasts_S512x1_S512x256)
      (broadcastTo S512x256 (bitcastToFloat .f32 (shli (minsi (iota .tc S1x256 32 [1] iota_S1x256_d1_w32)
        (broadcast S1x256 253#32)) (broadcast S1x256 23#32))) broadcasts_S1x256_S512x256))
      (broadcastTo S512x256 (cmpi .sgt (iota .tc S1x256 32 [1] iota_S1x256_d1_w32) (broadcast S1x256 0#32))
        broadcasts_S1x256_S512x256)) (broadcast S512x256 1#32) (broadcast S512x256 0#32)) 0#32
    reduces_S512x256_S512 rfl = v24
  have e24 : v24 (ix1 r) = reached (v4 (ix1 r) * c448) := by
    rw [← hv24]
    refine (rowsum (n := 512) (m := 256) _ _ _ _ _).trans ?_
    unfold reached
    refine congrArg (fun f => Finset.fold IntOp.addi 0#32 f (Finset.univ : Finset (Fin 256))) (funext fun x => ?_)
    exact mark512 v4 r x
  clear hv24 hv4
  pointwise
  exact congrArg₂ ew (e24.trans (by rw [e])) e

/-- The rows' scales. -/
theorem k1_scale (a : Vec Ideal S512x128 .f32) (r : Fin 512) :
    k1_pay3 (F := Ideal) a (ix2 r 0 : S512x1.Idx)
      = Ideal.ofBits .f32 (IntOp.shli .vector
          (IntOp.addi 127#32 (eword (rmax fun k : Fin 128 => a (ix2 r k)))) 23#32) := by
  rw [← k1_exp]
  unfold k1_pay3
  generalize k1_pay2 (F := Ideal) a = w
  pointwise

/-- The rows' inverse scales. -/
theorem k1_inv (a : Vec Ideal S512x128 .f32) (r : Fin 512) :
    k1_pay5 (F := Ideal) (k1_pay4 a) (ix2 r 0 : S512x1.Idx)
      = Ideal.ofBits .f32 (IntOp.shli .vector
          (IntOp.subi 127#32 (eword (rmax fun k : Fin 128 => a (ix2 r k)))) 23#32) := by
  rw [← k1_exp]
  unfold k1_pay4 k1_pay5
  generalize k1_pay2 (F := Ideal) a = w
  pointwise

/-- The codes of a slab. -/
theorem k1_codes (i : FVec Ideal S512x1 .f32) (w : Vec Ideal S1x512x256 .f32) (j : S512x256.Idx) :
    k1_pay9 (F := Ideal) i w j = code (w (ix3 0 (j 0) (j 1))) (i (ix2 (j 0) 0)) := by
  unfold k1_pay9
  pointwise
  rfl

end Cert.KernelIdeal.V

end
-- ==== Proof.V.Exp.lean ====
/-
  The two spellings of a row's exponent agree: the kernel's count of the powers of two that are reached, and the
  reference's logarithm. Both are `expo`; so the scale is `scl` and its inverse is `inv` on both sides.
-/
module

public import proofs.«01_k».proof.Proof.V.Scale

@[expose] public section

noncomputable section

namespace Cert.V

open Idealize.ShloMosaic

/-- The float whose exponent field is `n` and whose other bits are 0. -/
theorem ofBits_pow2 (n : ℕ) (h1 : 1 ≤ n) (h2 : n ≤ 254) :
    Ideal.ofBits .f32 (BitVec.ofNat 32 n <<< 23) = (((2 : ℝ) ^ ((n : ℤ) - 127) : ℝ) : EReal) := by
  have hneg : (BitVec.ofNat 32 n <<< 23).extractLsb' (8 + 23) 1 = 0#1 := by
    interval_cases n <;> rfl
  have hex : ((BitVec.ofNat 32 n <<< 23).extractLsb' 23 8).toNat = n := by
    interval_cases n <;> rfl
  have hfr : ((BitVec.ofNat 32 n <<< 23).extractLsb' 0 23).toNat = 0 := by
    interval_cases n <;> rfl
  show Ideal.ieee 8 23 (BitVec.ofNat 32 n <<< 23) = _
  generalize BitVec.ofNat 32 n <<< 23 = w at hneg hex hfr
  unfold Ideal.ieee
  rw [hneg, hex, hfr]
  have e1 : ¬ n = 2 ^ 8 - 1 := by norm_num; omega
  have e2 : ¬ n = 0 := by omega
  dsimp only
  rw [if_neg e1, if_neg e2]
  refine congrArg (fun x : ℝ => (x : EReal)) ?_
  have e3 : ((n : ℤ) - (2 ^ (8 - 1) - 1) - (23 : ℕ)) = ((n : ℤ) - 127) + (-23) := by norm_num; ring
  rw [e3, zpow_add₀ (by norm_num)]
  norm_num
  ring

/-- A sum of words, one for each member that satisfies a condition, is their number. -/
theorem fold_count {ι : Type} [DecidableEq ι] (P : ι → Prop) [DecidablePred P] (s : Finset ι) :
    s.fold IntOp.addi 0#32 (fun x => if P x then 1#32 else 0#32) = BitVec.ofNat 32 (s.filter P).card := by
  induction s using Finset.induction_on with
  | empty => rfl
  | insert a s ha ih =>
    rw [Finset.fold_insert ha, ih, Finset.filter_insert]
    by_cases h : P a
    · rw [if_pos h, if_pos h, Finset.card_insert_of_notMem (by simp [ha])]
      show 1#32 + _ = _
      rw [show (s.filter P).card + 1 = 1 + (s.filter P).card from Nat.add_comm _ _, BitVec.ofNat_add]
    · rw [if_neg h, if_neg h]
      show 0#32 + _ = _
      exact BitVec.zero_add _

/-- The power of two that index `k` stands for. -/
theorem power_word (k : ℕ) (h1 : 1 ≤ k) (h2 : k < 256) :
    Ideal.ofBits .f32 (IntOp.shli .vector (IntOp.minsi (BitVec.ofNat 32 k) 253#32) 23#32)
      = (((2 : ℝ) ^ (((min k 253 : ℕ) : ℤ) - 127) : ℝ) : EReal) := by
  have e : IntOp.shli .vector (IntOp.minsi (BitVec.ofNat 32 k) 253#32) 23#32 = BitVec.ofNat 32 (min k 253) <<< 23 := by
    interval_cases k <;> rfl
  rw [e]
  exact ofBits_pow2 _ (by omega) (by omega)

/-- The count, as the number of members of a set. -/
theorem reached_eq (v : EReal) :
    reached v = BitVec.ofNat 32 ((Finset.univ : Finset (Fin 256)).filter fun x =>
      1 ≤ x.val ∧ (((2 : ℝ) ^ (((min x.val 253 : ℕ) : ℤ) - 127) : ℝ) : EReal) ≤ v).card := by
  classical
  rw [← fold_count]
  unfold reached
  refine congrArg (fun f => Finset.fold IntOp.addi 0#32 f (Finset.univ : Finset (Fin 256))) (funext fun x => ?_)
  have hgt : IntOp.cmpi .sgt (BitVec.ofNat 32 x.val) 0#32 = BitVec.ofBool (decide (1 ≤ x.val)) := by
    revert x; decide
  rw [hgt]
  by_cases h1 : 1 ≤ x.val
  · rw [power_word x.val h1 x.isLt]
    by_cases h2 : (((2 : ℝ) ^ (((min x.val 253 : ℕ) : ℤ) - 127) : ℝ) : EReal) ≤ v
    · rw [if_pos ⟨h1, h2⟩]
      simp only [Ideal.cmp, h1, h2, decide_true]
      rfl
    · rw [if_neg (fun h => h2 h.2)]
      simp only [Ideal.cmp, h1, h2, decide_true, decide_false]
      rfl
  · rw [if_neg (fun h => h1 h.1)]
    simp only [h1, decide_false]
    unfold IntOp.andi Scalar.select
    rw [show BitVec.ofBool false = 0#1 from rfl, BitVec.and_zero]
    rfl

/-- Below the normal numbers nothing is reached. -/
theorem reached_low (v : EReal) (h : v < (((2 : ℝ) ^ (-126 : ℤ) : ℝ) : EReal)) : reached v = 0#32 := by
  rw [reached_eq, Finset.card_eq_zero.mpr]
  rw [Finset.filter_eq_empty_iff]
  rintro x - ⟨h1, h2⟩
  refine absurd (h2.trans_lt h) (not_lt.mpr (EReal.coe_le_coe_iff.mpr (zpow_le_zpow_right₀ (by norm_num) ?_)))
  omega

/-- Above 2^126 everything is. -/
theorem reached_high (v : EReal) (h : (((2 : ℝ) ^ (126 : ℤ) : ℝ) : EReal) ≤ v) : reached v = 255#32 := by
  rw [reached_eq]
  have : ((Finset.univ : Finset (Fin 256)).filter fun x =>
      1 ≤ x.val ∧ (((2 : ℝ) ^ (((min x.val 253 : ℕ) : ℤ) - 127) : ℝ) : EReal) ≤ v)
      = (Finset.univ : Finset (Fin 256)).filter fun x => 1 ≤ x.val := by
    refine Finset.filter_congr fun x _ => ⟨fun h => h.1, fun h1 => ⟨h1, le_trans ?_ h⟩⟩
    refine EReal.coe_le_coe_iff.mpr (zpow_le_zpow_right₀ (by norm_num) ?_)
    omega
  rw [this]
  decide

/-- Between, the count is the exponent field: `⌊log₂ v⌋ + 127`. -/
theorem reached_mid (r : ℝ) (n : ℤ) (h1 : -126 ≤ n) (h2 : n ≤ 125) (hl : (2 : ℝ) ^ n ≤ r) (hu : r < (2 : ℝ) ^ (n + 1)) :
    reached (r : EReal) = BitVec.ofNat 32 (n + 127).toNat := by
  rw [reached_eq]
  have : ((Finset.univ : Finset (Fin 256)).filter fun x =>
      1 ≤ x.val ∧ (((2 : ℝ) ^ (((min x.val 253 : ℕ) : ℤ) - 127) : ℝ) : EReal) ≤ (r : EReal))
      = (Finset.univ : Finset (Fin 256)).filter fun x => 1 ≤ x.val ∧ x.val ≤ (n + 127).toNat := by
    refine Finset.filter_congr fun x _ => and_congr_right fun hx => ?_
    rw [EReal.coe_le_coe_iff]
    constructor
    · intro h
      have := (zpow_lt_zpow_iff_right₀ (by norm_num : (1 : ℝ) < 2)).mp (h.trans_lt hu)
      omega
    · intro h
      exact le_trans (zpow_le_zpow_right₀ (by norm_num) (by omega)) hl
  rw [this]
  have hm : (n + 127).toNat < 256 := by omega
  generalize (n + 127).toNat = m at hm
  congr 1
  have e : ((Finset.univ : Finset (Fin 256)).filter fun x => 1 ≤ x.val ∧ x.val ≤ m).card
      = (Finset.Icc 1 m).card := by
    refine Finset.card_bij (fun x _ => x.val) (fun x hx => ?_) (fun x _ y _ h => Fin.ext h) (fun b hb => ?_)
    · simpa using hx
    · rw [Finset.mem_Icc] at hb
      exact ⟨⟨b, by omega⟩, by simpa using hb, rfl⟩
  rw [e]
  simp

/-- A real of the normal range, between two powers of two: its binary logarithm rounded down. -/
theorem floor_log (r : ℝ) (hl : (2 : ℝ) ^ (-126 : ℤ) ≤ r) (hu : r < (2 : ℝ) ^ (126 : ℤ)) :
    -126 ≤ ⌊Real.log r / Real.log 2⌋ ∧ ⌊Real.log r / Real.log 2⌋ ≤ 125
      ∧ (2 : ℝ) ^ ⌊Real.log r / Real.log 2⌋ ≤ r ∧ r < (2 : ℝ) ^ (⌊Real.log r / Real.log 2⌋ + 1) := by
  have hr : 0 < r := lt_of_lt_of_le (by positivity) hl
  have h2 : 0 < Real.log 2 := Real.log_pos (by norm_num)
  have key : ∀ z : ℤ, (2 : ℝ) ^ z ≤ r ↔ (z : ℝ) ≤ Real.log r / Real.log 2 := by
    intro z
    rw [le_div_iff₀ h2, ← Real.log_zpow, Real.log_le_log_iff (by positivity) hr]
  have a : (-126 : ℤ) ≤ ⌊Real.log r / Real.log 2⌋ := Int.le_floor.mpr ((key _).mp hl)
  have b : ⌊Real.log r / Real.log 2⌋ < 126 := by
    rw [Int.floor_lt, ← not_le, ← key]
    exact not_le.mpr hu
  refine ⟨a, by omega, (key _).mpr (Int.floor_le _), ?_⟩
  rw [← not_le, key, not_le]
  push_cast
  exact Int.lt_floor_add_one _

/-- The constant 2^-126. -/
theorem ofBits_lo : Ideal.ofBits .f32 0x00800000#32 = (((2 : ℝ) ^ (-126 : ℤ) : ℝ) : EReal) := by
  have := ofBits_pow2 1 (by norm_num) (by norm_num)
  exact this

/-- The constant 2^126. -/
theorem ofBits_hi : Ideal.ofBits .f32 0x7E800000#32 = (((2 : ℝ) ^ (126 : ℤ) : ℝ) : EReal) := by
  have := ofBits_pow2 253 (by norm_num) (by norm_num)
  exact this

/-- The constant 1. -/
theorem ofBits_one : Ideal.ofBits .f32 0x3F800000#32 = ((1 : ℝ) : EReal) := by
  have := ofBits_pow2 127 (by norm_num) (by norm_num)
  exact this.trans (by norm_num)

/-- The constant 2. -/
theorem ofBits_two : Ideal.ofBits .f32 0x40000000#32 = ((2 : ℝ) : EReal) := by
  have := ofBits_pow2 128 (by norm_num) (by norm_num)
  exact this.trans (by norm_num)

/-- Within the normal range `a / 448` is a real number. -/
theorem mid_real {v : EReal} (hl : (((2 : ℝ) ^ (-126 : ℤ) : ℝ) : EReal) ≤ v)
    (hu : v < (((2 : ℝ) ^ (126 : ℤ) : ℝ) : EReal)) : ((v.toReal : ℝ) : EReal) = v :=
  EReal.coe_toReal (ne_top_of_lt hu) (ne_of_gt (lt_of_lt_of_le (EReal.bot_lt_coe _) hl))

/-- The exponent's range. -/
theorem expo_range (a : EReal) : -125 ≤ expo a ∧ expo a ≤ 126 := by
  unfold expo
  split
  · omega
  split
  · next h =>
    have e := mid_real h.1 h.2
    rw [← e] at h
    have := floor_log _ (EReal.coe_le_coe_iff.mp h.1) (EReal.coe_lt_coe_iff.mp h.2)
    omega
  · omega

/-- A select by a condition's word. -/
theorem select_ofBool {α : Type} (p : Prop) [Decidable p] (x y : α) :
    Scalar.select (BitVec.ofBool (decide p)) x y = if p then x else y := by
  by_cases h : p <;> simp [h, Scalar.select]

/-- The kernel's exponent word is the exponent's. -/
theorem eword_eq (a : EReal) : eword a = BitVec.ofInt 32 (expo a) := by
  unfold eword ew
  by_cases h0 : a = 0
  · have : expo a = 0 := by unfold expo; rw [if_pos h0]
    rw [this]
    simp only [Ideal.cmp, h0, decide_true]
    unfold IntOp.ori Scalar.select
    rw [show BitVec.ofBool true = 1#1 from rfl, show ∀ x : BitVec 1, x ||| 1#1 = 1#1 by decide]
    rfl
  simp only [Ideal.cmp, h0, decide_false]
  unfold expo
  rw [if_neg h0]
  split
  · next h =>
    have e := mid_real h.1 h.2
    rw [← e] at h
    obtain ⟨hn1, hn2, hl, hu⟩ := floor_log _ (EReal.coe_le_coe_iff.mp h.1) (EReal.coe_lt_coe_iff.mp h.2)
    have hr := reached_mid _ _ hn1 hn2 hl hu
    rw [e] at hr
    rw [hr]
    clear hr hl hu h e
    generalize ⌊Real.log (a * c448).toReal / Real.log 2⌋ = n at hn1 hn2
    obtain ⟨k, rfl⟩ : ∃ k : ℕ, n = (k : ℤ) - 126 := ⟨(n + 126).toNat, by omega⟩
    have hk : k < 252 := by omega
    have e1 : ((k : ℤ) - 126 + 127).toNat = k + 1 := by omega
    have e2 : (k : ℤ) - 126 + 1 = (k : ℤ) - 125 := by omega
    rw [e1, e2]
    clear e1 e2 hn1 hn2
    revert k
    decide
  · next h =>
    rw [not_and_or, not_le, not_lt] at h
    rcases h with h | h
    · rw [reached_low _ h]; decide
    · rw [reached_high _ h]; decide

/-- The reference's exponent, by logarithms, is the exponent. -/
theorem rexp_eq (a : EReal) : rexp a = ((expo a : ℝ) : EReal) := by
  unfold rexp
  rw [Ideal.ofBits_zero_f32, ofBits_lo, ofBits_hi, ofBits_one, ofBits_two]
  unfold expo
  by_cases h0 : a = 0
  · simp only [Ideal.cmp, h0, decide_true, if_true]
    simp [Scalar.select]
  simp only [Ideal.cmp, h0, decide_false, if_false]
  rw [show ∀ x y : EReal, Scalar.select (BitVec.ofBool false) x y = y from fun _ _ => rfl]
  have hand : ∀ p q : Prop, [Decidable p] → [Decidable q] →
      IntOp.andi (BitVec.ofBool (decide p)) (BitVec.ofBool (decide q)) = BitVec.ofBool (decide (p ∧ q)) := by
    intro p q _ _
    by_cases hp : p <;> by_cases hq : q <;> simp [hp, hq, IntOp.andi]
  rw [hand, select_ofBool]
  split
  · next h =>
    have e := mid_real h.1 h.2
    rw [← e] at h
    have hr : 0 < (a * c448).toReal := lt_of_lt_of_le (by positivity) (EReal.coe_le_coe_iff.mp h.1)
    rw [← e]
    generalize (a * c448).toReal = r at hr
    have h2 : 0 < Real.log 2 := Real.log_pos (by norm_num)
    have hlog : Ideal.log ((r : ℝ) : EReal) = ((Real.log r : ℝ) : EReal) := by
      show (if r ≤ 0 then (⊥ : EReal) else (Real.log r : EReal)) = _
      rw [if_neg (not_le.mpr hr)]
    have hlog2 : Ideal.log ((2 : ℝ) : EReal) = ((Real.log 2 : ℝ) : EReal) := by
      show (if (2 : ℝ) ≤ 0 then (⊥ : EReal) else (Real.log 2 : EReal)) = _
      rw [if_neg (by norm_num)]
    rw [hlog, hlog2]
    have hdiv : Ideal.div ((Real.log r : ℝ) : EReal) ((Real.log 2 : ℝ) : EReal) = ((Real.log r / Real.log 2 : ℝ) : EReal) := by
      unfold Ideal.div
      rw [if_neg (by exact_mod_cast h2.ne'), ← EReal.coe_inv, ← EReal.coe_mul, div_eq_mul_inv]
    rw [hdiv]
    show ((((⌊Real.log r / Real.log 2⌋ : ℤ) : ℝ) : EReal)) + ((1 : ℝ) : EReal) = _
    rw [← EReal.coe_add, EReal.toReal_coe]
    push_cast
    rfl
  · simp

/-- The kernel's scale. -/
theorem kscale_eq (a : EReal) :
    Ideal.ofBits .f32 (IntOp.shli .vector (IntOp.addi 127#32 (eword a)) 23#32) = scl a := by
  rw [eword_eq]
  unfold scl
  obtain ⟨h1, h2⟩ := expo_range a
  generalize expo a = e at h1 h2
  obtain ⟨k, rfl⟩ : ∃ k : ℕ, e = (k : ℤ) - 125 := ⟨(e + 125).toNat, by omega⟩
  have hk : k < 252 := by omega
  have hw : IntOp.shli .vector (IntOp.addi 127#32 (BitVec.ofInt 32 ((k : ℤ) - 125))) 23#32
      = BitVec.ofNat 32 (k + 2) <<< 23 := by
    clear h1 h2; revert k; decide
  rw [hw, ofBits_pow2 _ (by omega) (by omega)]
  congr 2
  push_cast
  ring

/-- The kernel's inverse scale. -/
theorem kinv_eq (a : EReal) :
    Ideal.ofBits .f32 (IntOp.shli .vector (IntOp.subi 127#32 (eword a)) 23#32) = inv a := by
  rw [eword_eq]
  unfold inv
  obtain ⟨h1, h2⟩ := expo_range a
  generalize expo a = e at h1 h2
  obtain ⟨k, rfl⟩ : ∃ k : ℕ, e = 126 - (k : ℤ) := ⟨(126 - e).toNat, by omega⟩
  have hk : k < 252 := by omega
  have hw : IntOp.shli .vector (IntOp.subi 127#32 (BitVec.ofInt 32 (126 - (k : ℤ)))) 23#32
      = BitVec.ofNat 32 (k + 1) <<< 23 := by
    clear h1 h2; revert k; decide
  rw [hw, ofBits_pow2 _ (by omega) (by omega)]
  congr 2
  push_cast
  ring

/-- The reference's scale. -/
theorem rscale_eq (a : EReal) : Ideal.exp2 (rexp a) = scl a := by
  rw [rexp_eq]
  show ((Real.rpow 2 ((expo a : ℤ) : ℝ) : ℝ) : EReal) = _
  unfold scl
  congr 1
  exact Real.rpow_intCast 2 (expo a)

/-- The reference's inverse scale. -/
theorem rinv_eq (a : EReal) : Ideal.exp2 (Ideal.ofBits .f32 0x00000000#32 - rexp a) = inv a := by
  rw [rexp_eq, Ideal.ofBits_zero_f32, zero_sub, ← EReal.coe_neg]
  show ((Real.rpow 2 (-((expo a : ℤ) : ℝ)) : ℝ) : EReal) = _
  unfold inv
  congr 1
  rw [← Int.cast_neg]
  exact Real.rpow_intCast 2 (-expo a)

end Cert.V

end
-- ==== Proof.V.KArr0.lean ====
/-
  The first call's arrays after it: the codes and the scales of every row of the input.
-/
module

public import proofs.«01_k».proof.Proof.KI.Run
public import proofs.«01_k».proof.Proof.V.KPay
public import proofs.«01_k».proof.Proof.V.Exp
public import Idealize.ShloMosaic.Lib.Pipeline.ValueKit

@[expose] public section

set_option maxRecDepth 65536

noncomputable section

namespace Cert.KernelIdeal.V

open Cert.KernelIdeal Cert.KernelIdeal.Gen Cert.KernelIdeal.Run Idealize.ShloMosaic Idealize.ShloMosaic.TcCoe Cert.V
open Idealize.ShloMosaic.Pipeline (Dat)

/-- The codes of an array of rows. -/
def codes (X : S18432x16384.Idx → EReal) : S18432x16384.Idx → EReal :=
  fun i => code (X i) (inv (amax fun k : Fin 16384 => X (ix2 (i 0) k)))

/-- The scales of an array of rows. -/
def scales (X : S18432x16384.Idx → EReal) : S18432x1.Idx → EReal :=
  fun i => scl (amax fun k : Fin 16384 => X (ix2 (i 0) k))

theorem N0 : cfg0.N = 72 := by decide

theorem coords0 (t : Fin cfg0.N) : (grid0.coords t 0).val = t.val := by
  have e1 : (grid0.coords t 0).val = t.val / 1 % 72 := Pipeline.Grid.coords_val t 0 (by decide) rfl
  have : t.val < 72 := lt_of_lt_of_eq t.isLt N0
  omega

theorem idx0_0 : ∀ t : Fin cfg0.N, (cfg0.win 0).index t = ![t.val, 0] := by decide +kernel
theorem idx0_1 : ∀ t : Fin cfg0.N, (cfg0.win 1).index t = ![t.val, 0] := by decide +kernel
theorem idx0_2 : ∀ t : Fin cfg0.N, (cfg0.win 2).index t = ![t.val, 0] := by decide +kernel

variable (V : (c : Dev nD) → (b : Ref sig .tc) → Buf (Elt Ideal) ((c : Thread nD τ).loc b))

/-- Row `r` of block `t` of the input is row `256 t + r`. -/
theorem iblk0_0 (c : Dev nD) (t : Fin cfg0.N) (r : Fin 256) (k : Fin 16384) (i : Fin 18432) (hi : i.val = t.val * 256 + r.val) :
    iblk0 V c 0 t (ix2 r k : S256x16384.Idx) = V c main_v0 (ix2 i k : S18432x16384.Idx) := by
  blk_ext [iblk0, idx0_0 t]

theorem hz2 : (![0, 0] : Fin 2 → Nat) = fun _ => 0 := funext fun a => by fin_cases a <;> rfl

theorem out0_1_eq (x : Vec Ideal S256x16384 .bf16) : out0_1 (F := Ideal) x = k0_pay2 (k0_pay3 x) (k0_pay4 x) := by
  unfold out0_1
  rw [View.canon_unit_zero hz2, View.ld_unit_zero hz2]

theorem out0_2_eq (x : Vec Ideal S256x16384 .bf16) : out0_2 (F := Ideal) x = k0_pay1 (F := Ideal) (k0_pay5 x) := by
  unfold out0_2
  rw [View.canon_unit_zero hz2, View.ld_unit_zero hz2]

/-- The codes of a block of rows are those rows of the codes of the whole. -/
theorem codes_block (x : Vec Ideal S256x16384 .bf16) (X : S18432x16384.Idx → EReal) (y : S256x16384.Idx)
    (i : S18432x16384.Idx) (h1 : (i 1).val = (y 1).val)
    (hx : ∀ k : Fin 16384, x (ix2 (y 0) k) = X (ix2 (i 0) k)) : out0_1 (F := Ideal) x y = codes X i := by
  have ey : y = ix2 (y 0) (y 1) := funext fun a => by match a with | ⟨0, _⟩ => rfl | ⟨1, _⟩ => rfl
  have ei : i = ix2 (i 0) (y 1) := funext fun a => by
    match a with
    | ⟨0, _⟩ => rfl
    | ⟨1, _⟩ => exact Fin.ext h1
  have e1 : x y = X i := by
    rw [ei]
    exact (congrArg x ey).trans (hx (y 1))
  rw [out0_1_eq, k0_codes, kinv_eq]
  unfold codes
  exact congrArg₂ (fun a f => code a (inv (amax f))) e1 (funext hx)

/-- The scales of a block of rows are those rows' scales. -/
theorem scales_block (x : Vec Ideal S256x16384 .bf16) (X : S18432x16384.Idx → EReal) (y : S256x1.Idx)
    (i : S18432x1.Idx) (hx : ∀ k : Fin 16384, x (ix2 (y 0) k) = X (ix2 (i 0) k)) :
    out0_2 (F := Ideal) x y = scales X i := by
  have ey : y = ix2 (y 0) 0 := funext fun a => by
    match a with
    | ⟨0, _⟩ => rfl
    | ⟨1, _⟩ => exact Fin.ext (Nat.lt_one_iff.mp (y 1).isLt)
  have e2 : out0_2 (F := Ideal) x y = scl (amax fun k : Fin 16384 => x (ix2 (y 0) k)) := by
    rw [out0_2_eq, ey]
    exact (k0_scale x (y 0)).trans (kscale_eq _)
  rw [e2]
  unfold scales
  exact congrArg (fun f => scl (amax f)) (funext hx)

/-- After the first call its codes array holds the codes of its input. -/
theorem arr0_1 (c : Dev nD) : (dat0 V c).arrAt 1 cfg0.N = codes (V c main_v0) := by
  refine (dat0 V c).arrAt_eq_of_covers 1 _ (by decide +kernel) fun t hf y => ?_
  have h0 : ((((cfg0.win 1).blk t).view.emb y) 0 : ℕ) = t.val * 256 + (y 0).val := by blk_simp [idx0_1 t]
  have h1 : ((((cfg0.win 1).blk t).view.emb y) 1 : ℕ) = (y 1).val := by blk_simp [idx0_1 t]
  generalize ((cfg0.win 1).blk t).view.emb y = i at h0 h1
  blk_simp
  rw [after0_1]
  exact codes_block _ _ y i h1 fun k => iblk0_0 V c t (y 0) k (i 0) h0

/-- and its scales array their scales. -/
theorem arr0_2 (c : Dev nD) : (dat0 V c).arrAt 2 cfg0.N = scales (V c main_v0) := by
  refine (dat0 V c).arrAt_eq_of_covers 2 _ (by decide +kernel) fun t hf y => ?_
  have h0 : ((((cfg0.win 2).blk t).view.emb y) 0 : ℕ) = t.val * 256 + (y 0).val := by blk_simp [idx0_2 t]
  generalize ((cfg0.win 2).blk t).view.emb y = i at h0
  blk_simp
  rw [after0_2]
  exact scales_block _ _ y i fun k => iblk0_0 V c t (y 0) k (i 0) h0

end Cert.KernelIdeal.V

end
-- ==== Proof.V.KArr1.lean ====
/-
  The second call's arrays after it: the codes and the scales of every row of the activation, the row's largest
  magnitude having been kept per lane over the row's 26 column blocks.
-/
module

public import proofs.«01_k».proof.Proof.KI.Run
public import proofs.«01_k».proof.Proof.V.KPay
public import proofs.«01_k».proof.Proof.V.Exp
public import Idealize.ShloMosaic.Lib.Pipeline.ValueKit

@[expose] public section

set_option maxRecDepth 65536

noncomputable section

namespace Cert.KernelIdeal.V

open Cert.KernelIdeal Cert.KernelIdeal.Gen Cert.KernelIdeal.Run Idealize.ShloMosaic Idealize.ShloMosaic.TcCoe Cert.V
open Idealize.ShloMosaic.Pipeline (Dat)

/-! ## The activation -/

/-- Entry `(r, q)` of the activation, from the codes `C`, their scales `S`, the weights `W` and their scales `Q`. -/
def act (C : S18432x16384.Idx → EReal) (S : S18432x1.Idx → EReal) (W : S16384x13312.Idx → EReal)
    (Q : S1x13312.Idx → EReal) (r : Fin 18432) (q : Fin 6656) : EReal :=
  swi (∑ k : Fin 16384, C (ix2 r k) * W (ix2 k ⟨q.val, by omega⟩))
    (∑ k : Fin 16384, C (ix2 r k) * W (ix2 k ⟨6656 + q.val, by omega⟩)) (S (ix2 r 0))
    (Q (ix2 0 ⟨q.val, by omega⟩)) (Q (ix2 0 ⟨6656 + q.val, by omega⟩))

/-! ## The blocks read -/

theorem idx1_0 : ∀ t : Fin cfg1.N, (cfg1.win 0).index t = ![t.val / 26, 0] := by decide +kernel
theorem idx1_1 : ∀ t : Fin cfg1.N, (cfg1.win 1).index t = ![t.val / 26, 0] := by decide +kernel
theorem idx1_2 : ∀ t : Fin cfg1.N, (cfg1.win 2).index t = ![0, t.val % 26] := by decide +kernel
theorem idx1_3 : ∀ t : Fin cfg1.N, (cfg1.win 3).index t = ![0, t.val % 26 + 26] := by decide +kernel
theorem idx1_4 : ∀ t : Fin cfg1.N, (cfg1.win 4).index t = ![0, t.val % 26] := by decide +kernel
theorem idx1_5 : ∀ t : Fin cfg1.N, (cfg1.win 5).index t = ![0, t.val % 26 + 26] := by decide +kernel
theorem idx1_6 : ∀ t : Fin cfg1.N, (cfg1.win 6).index t = ![t.val / 26, 0] := by decide +kernel
theorem idx1_7 : ∀ t : Fin cfg1.N, (cfg1.win 7).index t = ![t.val / 26, 0] := by decide +kernel

variable (V : (c : Dev nD) → (b : Ref sig .tc) → Buf (Elt Ideal) ((c : Thread nD τ).loc b))

theorem iblk1_0 (c : Dev nD) (t : Fin cfg1.N) (r : Fin 512) (k : Fin 16384) (i : Fin 18432)
    (hi : i.val = t.val / 26 * 512 + r.val) :
    iblk1 V c 0 t (ix2 r k : S512x16384.Idx) = V c main_v1_0 (ix2 i k : S18432x16384.Idx) := by
  blk_ext [iblk1, idx1_0 t]

theorem iblk1_1 (c : Dev nD) (t : Fin cfg1.N) (r : Fin 512) (i : Fin 18432) (hi : i.val = t.val / 26 * 512 + r.val) :
    iblk1 V c 1 t (ix2 r 0 : S512x1.Idx) = V c main_v1_1 (ix2 i 0 : S18432x1.Idx) := by
  blk_ext [iblk1, idx1_1 t]

theorem iblk1_2 (c : Dev nD) (t : Fin cfg1.N) (k : Fin 16384) (l : Fin 256) (q : Fin 13312)
    (hq : q.val = t.val % 26 * 256 + l.val) :
    iblk1 V c 2 t (ix2 k l : S16384x256.Idx) = V c main_arg1 (ix2 k q : S16384x13312.Idx) := by
  blk_ext [iblk1, idx1_2 t]

theorem iblk1_3 (c : Dev nD) (t : Fin cfg1.N) (k : Fin 16384) (l : Fin 256) (q : Fin 13312)
    (hq : q.val = (t.val % 26 + 26) * 256 + l.val) :
    iblk1 V c 3 t (ix2 k l : S16384x256.Idx) = V c main_arg1 (ix2 k q : S16384x13312.Idx) := by
  blk_ext [iblk1, idx1_3 t]

theorem iblk1_4 (c : Dev nD) (t : Fin cfg1.N) (l : Fin 256) (q : Fin 13312) (hq : q.val = t.val % 26 * 256 + l.val) :
    iblk1 V c 4 t (ix2 0 l : S1x256.Idx) = V c main_v2 (ix2 0 q : S1x13312.Idx) := by
  blk_ext [iblk1, idx1_4 t]

theorem iblk1_5 (c : Dev nD) (t : Fin cfg1.N) (l : Fin 256) (q : Fin 13312)
    (hq : q.val = (t.val % 26 + 26) * 256 + l.val) :
    iblk1 V c 5 t (ix2 0 l : S1x256.Idx) = V c main_v2 (ix2 0 q : S1x13312.Idx) := by
  blk_ext [iblk1, idx1_5 t]

/-- The activation, from the second call's input arrays. -/
def actV (c : Dev nD) : Fin 18432 → Fin 6656 → EReal :=
  act (V c main_v1_0) (V c main_v1_1) (V c main_arg1) (V c main_v2)

/-- One entry of a block, when the blocks it is computed from hold the arrays' entries. -/
theorem entry_eq (b0 : Vec Ideal S512x16384 .fp8e4m3) (b1 : Vec Ideal S512x1 .f32) (b2 b3 : Vec Ideal S16384x256 .fp8e4m3)
    (b4 b5 : Vec Ideal S1x256 .f32) (C : S18432x16384.Idx → EReal) (S : S18432x1.Idx → EReal)
    (W : S16384x13312.Idx → EReal) (Q : S1x13312.Idx → EReal) (r : Fin 512) (l : Fin 256) (i : Fin 18432) (q : Fin 6656)
    (e0 : ∀ k : Fin 16384, b0 (ix2 r k) = C (ix2 i k)) (e1 : b1 (ix2 r 0) = S (ix2 i 0))
    (e2 : ∀ k : Fin 16384, b2 (ix2 k l) = W (ix2 k ⟨q.val, by omega⟩))
    (e3 : ∀ k : Fin 16384, b3 (ix2 k l) = W (ix2 k ⟨6656 + q.val, by omega⟩))
    (e4 : b4 (ix2 0 l) = Q (ix2 0 ⟨q.val, by omega⟩)) (e5 : b5 (ix2 0 l) = Q (ix2 0 ⟨6656 + q.val, by omega⟩)) :
    k1_pay36 (F := Ideal) b0 b1 b2 b3 b4 b5 (ix2 r l) = act C S W Q i q := by
  refine (k1_h _ _ _ _ _ _ _).trans ?_
  unfold act
  refine congr (congr (congr (congrArg₂ swi ?_ ?_) e1) e4) e5
  · exact Finset.sum_congr rfl fun k _ => congrArg₂ (fun a b : EReal => a * b) (e0 k) (e2 k)
  · exact Finset.sum_congr rfl fun k _ => congrArg₂ (fun a b : EReal => a * b) (e0 k) (e3 k)

/-- The block computed at point `t`. -/
def blkAt (c : Dev nD) (t : Fin cfg1.N) : FVec Ideal S512x256 .f32 :=
  k1_pay36 (iblk1 V c 0 t) (iblk1 V c 1 t) (iblk1 V c 2 t) (iblk1 V c 3 t) (iblk1 V c 4 t) (iblk1 V c 5 t)

/-- is the activation at the block's rows and columns. -/
theorem blkAt_eq (c : Dev nD) (t : Fin cfg1.N) (r : Fin 512) (l : Fin 256) (i : Fin 18432) (q : Fin 6656)
    (hi : i.val = t.val / 26 * 512 + r.val) (hq : q.val = t.val % 26 * 256 + l.val) :
    blkAt V c t (ix2 r l : S512x256.Idx) = actV V c i q := by
  unfold blkAt
  exact entry_eq _ _ _ _ _ _ _ _ _ _ r l i q (fun k => iblk1_0 V c t r k i hi) (iblk1_1 V c t r i hi)
    (fun k => iblk1_2 V c t k l ⟨q.val, by omega⟩ hq) (fun k => iblk1_3 V c t k l ⟨6656 + q.val, by omega⟩ (by simp only; omega))
    (iblk1_4 V c t l ⟨q.val, by omega⟩ hq) (iblk1_5 V c t l ⟨6656 + q.val, by omega⟩ (by simp only; omega))

/-! ## The running maxima -/

theorem start_word : Ideal.ofBits .f32 0xFF800000#32 = (⊥ : EReal) := by simp [Ideal.ofBits, Ideal.ieee]

/-- A maximum is at most `z` when every value is. -/
theorem rmax_le {m : ℕ} (f : Fin m → EReal) (z : EReal) : rmax f ≤ z ↔ ∀ k, f k ≤ z := by
  unfold rmax
  rw [Finset.fold_max_le, start_word]
  simp

/-- The lane maxima of point `n`. -/
theorem part_eq (c : Dev nD) (n : ℕ) (r : Fin 512) (l : Fin 128) (i : Fin 18432) (q q' : Fin 6656) (hn : n < 936)
    (hi : i.val = n / 26 * 512 + r.val) (hq : q.val = n % 26 * 256 + l.val) (hq' : q'.val = n % 26 * 256 + (128 + l.val)) :
    partAt V c (pt n) (ix2 r l : S512x128.Idx) = max (mag (actV V c i q)) (mag (actV V c i q')) := by
  have hp : (pt n).val = n := Nat.mod_eq_of_lt hn
  unfold partAt
  refine (k1_part _ _ _ _ _ _ r l).trans ?_
  exact congrArg₂ (fun a b => max (mag a) (mag b))
    (blkAt_eq V c (pt n) r ⟨l.val, by omega⟩ i q (by rw [hp]; exact hi) (by rw [hp]; exact hq))
    (blkAt_eq V c (pt n) r ⟨128 + l.val, by omega⟩ i q' (by rw [hp]; exact hi) (by rw [hp]; exact hq'))

/-- A lane's running maximum after column block `j` is at most `z` when the magnitudes of the lane's entries in the column
    blocks up to `j` are. -/
theorem acc_le (c : Dev nD) (b : ℕ) (hb : b < 36) (r : Fin 512) (l : Fin 128) (i : Fin 18432)
    (hi : i.val = b * 512 + r.val) (z : EReal) (j : ℕ) (hj : j < 26) :
    acc V c (b * 26 + j) (ix2 r l : S512x128.Idx) ≤ z
      ↔ ∀ q : Fin 6656, q.val / 256 ≤ j → q.val % 128 = l.val → mag (actV V c i q) ≤ z := by
  have hmod : (b * 26 + j) % 26 = j := by omega
  have hdiv : (b * 26 + j) / 26 = b := by omega
  have hp := part_eq V c (b * 26 + j) r l i ⟨j * 256 + l.val, by omega⟩ ⟨j * 256 + (128 + l.val), by omega⟩ (by omega)
    (by rw [hdiv]; exact hi) (by rw [hmod]) (by rw [hmod])
  have two : ∀ q : Fin 6656, q.val / 256 = j → q.val % 128 = l.val →
      q = ⟨j * 256 + l.val, by omega⟩ ∨ q = ⟨j * 256 + (128 + l.val), by omega⟩ := by
    intro q h1 h2
    rcases Nat.lt_or_ge (q.val % 256) 128 with h | h
    · exact Or.inl (Fin.ext (by simp only; omega))
    · exact Or.inr (Fin.ext (by simp only; omega))
  induction j with
  | zero =>
    rw [acc_first V c _ hmod]
    have e : startAt V c (pt (b * 26 + 0)) (ix2 r l : S512x128.Idx) = partAt V c (pt (b * 26 + 0)) (ix2 r l : S512x128.Idx) :=
      k1_start _ _ _ _ _ _ _
    rw [e, hp, max_le_iff]
    constructor
    · rintro ⟨h1, h2⟩ q hq hl
      rcases two q (by omega) hl with rfl | rfl
      · exact h1
      · exact h2
    · intro h
      exact ⟨h _ (by simp only; omega) (by simp only; omega), h _ (by simp only; omega) (by simp only; omega)⟩
  | succ j ih =>
    have hmod' : (b * 26 + j) % 26 = j := by omega
    have hdiv' : (b * 26 + j) / 26 = b := by omega
    have ih' : acc V c (b * 26 + j) (ix2 r l : S512x128.Idx) ≤ z
        ↔ ∀ q : Fin 6656, q.val / 256 ≤ j → q.val % 128 = l.val → mag (actV V c i q) ≤ z := ih (by omega) hmod' hdiv'
      (part_eq V c (b * 26 + j) r l i ⟨j * 256 + l.val, by omega⟩ ⟨j * 256 + (128 + l.val), by omega⟩ (by omega)
        (by rw [hdiv']; exact hi) (by rw [hmod']) (by rw [hmod'])) (by
        intro q h1 h2
        rcases Nat.lt_or_ge (q.val % 256) 128 with h | h
        · exact Or.inl (Fin.ext (by simp only; omega))
        · exact Or.inr (Fin.ext (by simp only; omega)))
    rw [acc_next V c _ (by omega), show b * 26 + (j + 1) - 1 = b * 26 + j from rfl, k1_next, hp, max_le_iff, max_le_iff, ih']
    constructor
    · rintro ⟨h0, h1, h2⟩ q hq hl
      rcases Nat.lt_or_ge j (q.val / 256) with h | h
      · rcases two q (by omega) hl with rfl | rfl
        · exact h1
        · exact h2
      · exact h0 q h hl
    · intro h
      exact ⟨fun q hq hl => h q (by omega) hl, h _ (by simp only; omega) (by simp only; omega),
        h _ (by simp only; omega) (by simp only; omega)⟩

/-- At a row block's last point the largest lane maximum of a row is the row's largest magnitude. -/
theorem acc_last (c : Dev nD) (t : Fin cfg1.N) (ht : t.val % 26 = 25) (r : Fin 512) (i : Fin 18432)
    (hi : i.val = t.val / 26 * 512 + r.val) :
    (rmax fun l : Fin 128 => acc V c t.val (ix2 r l : S512x128.Idx)) = amax fun q : Fin 6656 => actV V c i q := by
  have hN : t.val < 936 := lt_of_lt_of_eq t.isLt N_1
  have e : t.val = t.val / 26 * 26 + 25 := by omega
  refine eq_of_forall_ge_iff fun z => ?_
  unfold amax
  rw [rmax_le, rmax_le]
  constructor
  · intro h q
    have := h ⟨q.val % 128, Nat.mod_lt _ (by decide)⟩
    rw [e] at this
    exact (acc_le V c (t.val / 26) (by omega) r _ i hi z 25 (by decide)).mp this q (by omega) rfl
  · intro h l
    rw [e]
    exact (acc_le V c (t.val / 26) (by omega) r l i hi z 25 (by decide)).mpr fun q _ _ => h q

/-! ## The arrays written -/

/-- The scales of the activation's rows. -/
def hscales (H : Fin 18432 → Fin 6656 → EReal) : S18432x1.Idx → EReal := fun i => scl (amax fun q => H (i 0) q)

/-- The codes of the activation. -/
def hcodes (H : Fin 18432 → Fin 6656 → EReal) : S18432x6656.Idx → EReal :=
  fun i => code (H (i 0) (i 1)) (inv (amax fun q => H (i 0) q))

/-- After the second call its scales array holds the scales of the activation's rows. -/
theorem arr1_6 (c : Dev nD) : (dat1 V c).arrAt 6 cfg1.N = hscales (actV V c) := by
  refine (dat1 V c).arrAt_eq_of_covers 6 _ (by decide +kernel) fun t hf y => ?_
  have h25 : t.val % 26 = 25 := (flush1_6 t).mp hf
  have h0 : ((((cfg1.win 6).blk t).view.emb y) 0 : ℕ) = t.val / 26 * 512 + (y 0).val := by blk_simp [idx1_6 t]
  generalize ((cfg1.win 6).blk t).view.emb y = i at h0
  blk_simp
  rw [after1_6]
  have key : ∀ y : S512x1.Idx, ∀ i : S18432x1.Idx, (i 0).val = t.val / 26 * 512 + (y 0).val →
      k1_pay3 (F := Ideal) (acc V c t.val) y = hscales (actV V c) i := by
    intro y i h0
    have ey : y = ix2 (y 0) 0 := funext fun a => by
      match a with
      | ⟨0, _⟩ => rfl
      | ⟨1, _⟩ => exact Fin.ext (Nat.lt_one_iff.mp (y 1).isLt)
    have e1 : k1_pay3 (F := Ideal) (acc V c t.val) y = scl (rmax fun l : Fin 128 => acc V c t.val (ix2 (y 0) l : S512x128.Idx)) := by
      rw [ey]
      exact (k1_scale (acc V c t.val) (y 0)).trans (kscale_eq _)
    rw [e1]
    unfold hscales
    exact congrArg scl (acc_last V c t h25 (y 0) (i 0) h0)
  exact key y i h0

/-- and its codes array the activation's codes. -/
theorem arr1_7 (c : Dev nD) : (dat1 V c).arrAt 7 cfg1.N = hcodes (actV V c) := by
  refine (dat1 V c).arrAt_eq_of_covers 7 _ (by decide +kernel) fun t hf y => ?_
  have h25 : t.val % 26 = 25 := (flush1_7 t).mp hf
  have h0 : ((((cfg1.win 7).blk t).view.emb y) 0 : ℕ) = t.val / 26 * 512 + (y 0).val := by blk_simp [idx1_7 t]
  have h1 : ((((cfg1.win 7).blk t).view.emb y) 1 : ℕ) = (y 1).val := by blk_simp [idx1_7 t]
  generalize ((cfg1.win 7).blk t).view.emb y = i at h0 h1
  blk_simp
  rw [after1_7]
  have key : ∀ y : S512x6656.Idx, ∀ i : S18432x6656.Idx, (i 0).val = t.val / 26 * 512 + (y 0).val → (i 1).val = (y 1).val →
      hcOut (F := Ideal) (k1_pay5 (F := Ideal) (k1_pay4 (F := Ideal) (acc V c t.val))) (stackAt V c t) y = hcodes (actV V c) i := by
    intro y i h0 h1
    have hN : t.val < 936 := lt_of_lt_of_eq t.isLt N_1
    have hy : (y 1).val < 6656 := (y 1).isLt
    unfold hcOut
    refine (k1_codes _ _ _).trans ?_
    have e1 : k1_pay5 (F := Ideal) (k1_pay4 (acc V c t.val)) (ix2 (y 0) 0 : S512x1.Idx) = inv (amax fun q => actV V c (i 0) q) :=
      ((k1_inv (acc V c t.val) (y 0)).trans (kinv_eq _)).trans (congrArg inv (acc_last V c t h25 (y 0) (i 0) h0))
    have hp : (pt (t.val / 26 * 26 + (y 1).val / 256)).val = t.val / 26 * 26 + (y 1).val / 256 :=
      Nat.mod_eq_of_lt (by omega)
    have e2 : slabAt V c (pt (t.val / 26 * 26 + (y 1).val / 256))
        (ix3 0 (y 0) ⟨(y 1).val % 256, Nat.mod_lt _ (by decide)⟩ : S1x512x256.Idx) = actV V c (i 0) (i 1) := by
      unfold slabAt
      refine (k1_slab _ _ _ _ _ _ _).trans ?_
      exact blkAt_eq V c _ (y 0) ⟨(y 1).val % 256, Nat.mod_lt _ (by decide)⟩ (i 0) (i 1)
        (by rw [hp]; omega) (by rw [hp]; simp only; omega)
    unfold hcodes
    exact congrArg₂ code e2 e1
  exact key y i h0 h1

end Cert.KernelIdeal.V

end
-- ==== Proof.V.KRes.lean ====
/-
  The kernel's run read at its results: the reshapes before, between and after the two calls, and the four results
  as functions of the three arguments.
-/
module

public import proofs.«01_k».proof.Proof.V.KArr0
public import proofs.«01_k».proof.Proof.V.KArr1

@[expose] public section

set_option maxRecDepth 65536

noncomputable section

namespace Cert.KernelIdeal.V

open Cert.KernelIdeal Cert.KernelIdeal.Gen Cert.KernelIdeal.Run Idealize.ShloMosaic Idealize.ShloMosaic.TcCoe Cert.V
open Idealize.ShloMosaic.Pipeline (Dat)

/-! ## The results as functions of the arguments -/

/-- The input's rows. -/
def rowsOf (x : Vec Ideal S3x6144x16384 .bf16) : Vec Ideal S18432x16384 .bf16 :=
  shapeCast S18432x16384 x shapeCasts_S3x6144x16384_S18432x16384

/-- The weights' scales as a row. -/
def rowOf (q : Vec Ideal S13312 .f32) : Vec Ideal S1x13312 .f32 := shapeCast S1x13312 q shapeCasts_S13312_S1x13312

/-- The activation, from the arguments. -/
def actOf (x : Vec Ideal S3x6144x16384 .bf16) (w : Vec Ideal S16384x13312 .fp8e4m3) (q : Vec Ideal S13312 .f32) :
    Fin 18432 → Fin 6656 → EReal :=
  act (codes (rowsOf x)) (scales (rowsOf x)) w (rowOf q)

/-- The first result: the scales of the activation's rows. -/
def res0 (x : Vec Ideal S3x6144x16384 .bf16) (w : Vec Ideal S16384x13312 .fp8e4m3) (q : Vec Ideal S13312 .f32) :
    Vec Ideal S3x6144x1 .f32 :=
  shapeCast (α := EReal) S3x6144x1 (hscales (actOf x w q)) shapeCasts_S18432x1_S3x6144x1

/-- The second: the activation's codes. -/
def res1 (x : Vec Ideal S3x6144x16384 .bf16) (w : Vec Ideal S16384x13312 .fp8e4m3) (q : Vec Ideal S13312 .f32) :
    Vec Ideal S3x6144x6656 .fp8e4m3 :=
  shapeCast (α := EReal) S3x6144x6656 (hcodes (actOf x w q)) shapeCasts_S18432x6656_S3x6144x6656

/-- The third: the input's codes. -/
def res2 (x : Vec Ideal S3x6144x16384 .bf16) : Vec Ideal S3x6144x16384 .fp8e4m3 :=
  shapeCast (α := EReal) S3x6144x16384 (codes (rowsOf x)) shapeCasts_S18432x16384_S3x6144x16384

/-- The fourth: the scales of the input's rows. -/
def res3 (x : Vec Ideal S3x6144x16384 .bf16) : Vec Ideal S3x6144x1 .f32 :=
  shapeCast (α := EReal) S3x6144x1 (scales (rowsOf x)) shapeCasts_S18432x1_S3x6144x1

/-! ## The buffers at each boundary -/

variable (m : (ℓ : Loc nD τ sig) → Buf (Elt Ideal) ℓ) (ρ : Dev nD → PrngReg) (c : Dev nD)

/-- The three arguments as launched. -/
abbrev a0 : Vec Ideal S3x6144x16384 .bf16 := m ((c : Thread nD τ).loc main_arg0)
abbrev a1 : Vec Ideal S16384x13312 .fp8e4m3 := m ((c : Thread nD τ).loc main_arg1)
abbrev a2 : Vec Ideal S13312 .f32 := m ((c : Thread nD τ).loc main_arg2)

theorem W1_v0 : W1 m ρ c (Proc.devRef .tc main_v0) = rowsOf (a0 m c) := by
  unfold W1 rowsOf
  simp only [StableHlo.after_cons, StableHlo.after_nil]
  rw [StableHlo.reshape_result]
  rfl

theorem W2_v1_0 : W2 m ρ c (Proc.devRef .tc main_v1_0) = codes (rowsOf (a0 m c)) := by
  refine (W2_arr m ρ c 1).trans ((arr0_1 (V1 m ρ) c).trans ?_)
  rw [show V1 m ρ c main_v0 = rowsOf (a0 m c) from W1_v0 m ρ c]

theorem W2_v1_1 : W2 m ρ c (Proc.devRef .tc main_v1_1) = scales (rowsOf (a0 m c)) := by
  refine (W2_arr m ρ c 2).trans ((arr0_2 (V1 m ρ) c).trans ?_)
  rw [show V1 m ρ c main_v0 = rowsOf (a0 m c) from W1_v0 m ρ c]

theorem W3_v1_0 : W3 m ρ c (Proc.devRef .tc main_v1_0) = codes (rowsOf (a0 m c)) :=
  (W3_of m ρ c main_v1_0 (by decide)).trans (W2_v1_0 m ρ c)

theorem W3_v1_1 : W3 m ρ c (Proc.devRef .tc main_v1_1) = scales (rowsOf (a0 m c)) :=
  (W3_of m ρ c main_v1_1 (by decide)).trans (W2_v1_1 m ρ c)

theorem W3_arg1 : W3 m ρ c (Proc.devRef .tc main_arg1) = a1 m c := W3_args m ρ c main_arg1 (by decide)

theorem W3_v2 : W3 m ρ c (Proc.devRef .tc main_v2) = rowOf (a2 m c) := by
  have h := W2_args m ρ c main_arg2 (by decide)
  unfold W3 rowOf
  simp only [StableHlo.after_cons, StableHlo.after_nil]
  rw [StableHlo.reshape_result, h]
  rfl

/-- The second call's activation is the arguments'. -/
theorem actV_eq : actV (V3 m ρ) c = actOf (a0 m c) (a1 m c) (a2 m c) := by
  unfold actV actOf
  rw [show V3 m ρ c main_v1_0 = codes (rowsOf (a0 m c)) from W3_v1_0 m ρ c,
    show V3 m ρ c main_v1_1 = scales (rowsOf (a0 m c)) from W3_v1_1 m ρ c,
    show V3 m ρ c main_arg1 = a1 m c from W3_arg1 m ρ c, show V3 m ρ c main_v2 = rowOf (a2 m c) from W3_v2 m ρ c]

theorem W4_v3_0 : W4 m ρ c (Proc.devRef .tc main_v3_0) = hscales (actOf (a0 m c) (a1 m c) (a2 m c)) := by
  refine (W4_arr m ρ c 6).trans ((arr1_6 (V3 m ρ) c).trans ?_)
  rw [actV_eq]

theorem W4_v3_1 : W4 m ρ c (Proc.devRef .tc main_v3_1) = hcodes (actOf (a0 m c) (a1 m c) (a2 m c)) := by
  refine (W4_arr m ρ c 7).trans ((arr1_7 (V3 m ρ) c).trans ?_)
  rw [actV_eq]

theorem W4_v1_0 : W4 m ρ c (Proc.devRef .tc main_v1_0) = codes (rowsOf (a0 m c)) :=
  (W4_of m ρ c main_v1_0 (by decide)).trans (W3_v1_0 m ρ c)

theorem W4_v1_1 : W4 m ρ c (Proc.devRef .tc main_v1_1) = scales (rowsOf (a0 m c)) :=
  (W4_of m ρ c main_v1_1 (by decide)).trans (W3_v1_1 m ρ c)

/-! ## The four results -/

theorem W5_v4 : W5 m ρ c (Proc.devRef .tc main_v4) = res0 (a0 m c) (a1 m c) (a2 m c) := by
  have h := W4_v3_0 m ρ c
  unfold W5 res0
  generalize W4 m ρ c = w at h
  after_results
  rw [h]
  rfl

theorem W5_v5 : W5 m ρ c (Proc.devRef .tc main_v5) = res1 (a0 m c) (a1 m c) (a2 m c) := by
  have h := W4_v3_1 m ρ c
  unfold W5 res1
  generalize W4 m ρ c = w at h
  after_results
  rw [h]
  rfl

theorem W5_v6 : W5 m ρ c (Proc.devRef .tc main_v6) = res2 (a0 m c) := by
  have h := W4_v1_0 m ρ c
  unfold W5 res2
  generalize W4 m ρ c = w at h
  after_results
  rw [h]
  rfl

theorem W5_v7 : W5 m ρ c (Proc.devRef .tc main_v7) = res3 (a0 m c) := by
  have h := W4_v1_1 m ρ c
  unfold W5 res3
  generalize W4 m ρ c = w at h
  after_results
  rw [h]
  rfl

end Cert.KernelIdeal.V

end
-- ==== Proof.V.RPay.lean ====
/-
  The reference's payloads, read at one entry: the two exponents, scales and codes, and the activation.
-/
module

public import proofs.«01_k».proof.Proof.Gen.ReferenceIdeal.Skeleton
public import proofs.«01_k».proof.Proof.V.Rows
public import proofs.«01_k».proof.Proof.V.Scale

@[expose] public section

set_option maxRecDepth 65536

noncomputable section

namespace Cert.ReferenceIdeal.V

open Cert.ReferenceIdeal Cert.ReferenceIdeal.Gen Idealize.ShloMosaic Cert.V

/-- A power of two, read at an entry. -/
theorem exp2_at {s : Shape} (w : FVec Ideal s .f32) (j : s.Idx) : exp2 w j = Ideal.exp2 (w j) := rfl

/-- The exponents of a column of rows' largest magnitudes, as the reference computes them. -/
def expVec (n : ℕ) (v5 : FVec Ideal ⟨2, ![n, 1]⟩ .f32) : FVec Ideal ⟨2, ![n, 1]⟩ .f32 :=
  select (cmpf .oeq v5 (broadcast ⟨2, ![n, 1]⟩ (Scalar.ofBits (F := Ideal) .f32 0x00000000#32)))
    (broadcast ⟨2, ![n, 1]⟩ (Scalar.ofBits (F := Ideal) .f32 0x00000000#32))
    (select (andi
        (cmpf .oge (mulf v5 (broadcast ⟨2, ![n, 1]⟩ (Scalar.ofBits (F := Ideal) .f32 0x3B124925#32)))
          (broadcast ⟨2, ![n, 1]⟩ (Scalar.ofBits (F := Ideal) .f32 0x00800000#32)))
        (cmpf .olt (mulf v5 (broadcast ⟨2, ![n, 1]⟩ (Scalar.ofBits (F := Ideal) .f32 0x3B124925#32)))
          (broadcast ⟨2, ![n, 1]⟩ (Scalar.ofBits (F := Ideal) .f32 0x7E800000#32))))
      (addf (floor (divf (log (mulf v5 (broadcast ⟨2, ![n, 1]⟩ (Scalar.ofBits (F := Ideal) .f32 0x3B124925#32))))
          (log (broadcast ⟨2, ![n, 1]⟩ (Scalar.ofBits (F := Ideal) .f32 0x40000000#32)))))
        (broadcast ⟨2, ![n, 1]⟩ (Scalar.ofBits (F := Ideal) .f32 0x3F800000#32)))
      (broadcast ⟨2, ![n, 1]⟩ (Scalar.ofBits (F := Ideal) .f32 0x00000000#32)))

/-- One of them is `rexp` of its row's largest magnitude. -/
theorem expVec_apply (n : ℕ) (v5 : FVec Ideal ⟨2, ![n, 1]⟩ .f32) (j : (⟨2, ![n, 1]⟩ : Shape).Idx) :
    expVec n v5 j = rexp (v5 j) := rfl

/-- Codes as the reference computes them: entries times the inverse scales of a column of exponents, clipped. -/
def codeVec (n m : ℕ) (x : FVec Ideal ⟨2, ![n, m]⟩ .f32) (e : FVec Ideal ⟨2, ![n, 1]⟩ .f32)
    (h : (⟨2, ![n, 1]⟩ : Shape).Broadcasts ⟨2, ![n, m]⟩) : FVec Ideal ⟨2, ![n, m]⟩ .fp8e4m3 :=
  truncf .fp8e4m3 (minimumf (broadcast ⟨2, ![n, m]⟩ (Scalar.ofBits (F := Ideal) .f32 0x43E00000#32))
    (maximumf (broadcast ⟨2, ![n, m]⟩ (Scalar.ofBits (F := Ideal) .f32 0xC3E00000#32))
      (mulf x (broadcastTo ⟨2, ![n, m]⟩
        (exp2 (subf (broadcast ⟨2, ![n, 1]⟩ (Scalar.ofBits (F := Ideal) .f32 0x00000000#32)) e)) h)))) bitsLt_fp8e4m3_f32

/-- One of them is `code` of its entry and its row's inverse scale. -/
theorem codeVec_apply (n m : ℕ) (x : FVec Ideal ⟨2, ![n, m]⟩ .f32) (e : FVec Ideal ⟨2, ![n, 1]⟩ .f32)
    (h : (⟨2, ![n, 1]⟩ : Shape).Broadcasts ⟨2, ![n, m]⟩) (j : (⟨2, ![n, m]⟩ : Shape).Idx) :
    codeVec n m x e h j
      = code (x j) (Ideal.exp2 (Ideal.ofBits .f32 0x00000000#32 - e (ix2 (j 0) 0))) := by
  unfold codeVec
  have hb := bcast_col (exp2 (subf (broadcast ⟨2, ![n, 1]⟩ (Scalar.ofBits (F := Ideal) .f32 0x00000000#32)) e)) h j
  generalize broadcastTo ⟨2, ![n, m]⟩
    (exp2 (subf (broadcast ⟨2, ![n, 1]⟩ (Scalar.ofBits (F := Ideal) .f32 0x00000000#32)) e)) h = b at hb
  have hb' : b j = Ideal.exp2 (Ideal.ofBits .f32 0x00000000#32 - e (ix2 (j 0) 0)) := hb
  rw [← hb']
  rfl

/-- The widened input is the input. -/
theorem r_ext (x : Vec Ideal S18432x16384 .bf16) : k0_pay1 (F := Ideal) x = x :=
  shapeCast_self _ _

/-- The exponents of the input. -/
theorem r_exp_eq (x : Vec Ideal S18432x16384 .bf16) :
    k0_pay2 (F := Ideal) x = expVec 18432 (shapeCast S18432x1 (multiReduction (F := Ideal) .maximumf [1] S18432
      (absf (k0_pay1 x)) 0xFF800000#32 reduces_S18432x16384_S18432 (.inl rfl) rfl) shapeCasts_S18432_S18432x1) := by
  unfold k0_pay2 expVec
  dsimp only

/-- A row's exponent, of the input. -/
theorem r_exp (x : Vec Ideal S18432x16384 .bf16) (j : S18432x1.Idx) :
    k0_pay2 (F := Ideal) x j = rexp (amax fun k : Fin 16384 => x (ix2 (j 0) k)) := by
  rw [r_exp_eq, expVec_apply, r_ext]
  exact congrArg rexp (colmax 18432 16384 x _ _ _ _ rfl _ j)

/-- A row's scale, of the input. -/
theorem r_scale (x : Vec Ideal S18432x16384 .bf16) (j : S18432x1.Idx) :
    k0_pay3 (F := Ideal) x j = Ideal.exp2 (rexp (amax fun k : Fin 16384 => x (ix2 (j 0) k))) := by
  have h : k0_pay3 (F := Ideal) x = exp2 (k0_pay2 (F := Ideal) x) := by
    unfold k0_pay3
    dsimp only
  rw [h, exp2_at, r_exp]

/-- The codes of the input. -/
theorem r_codes (x : Vec Ideal S18432x16384 .bf16) (j : S18432x16384.Idx) :
    k0_pay4 (F := Ideal) x j = code (x j) (Ideal.exp2 (Ideal.ofBits .f32 0x00000000#32
      - rexp (amax fun k : Fin 16384 => x (ix2 (j 0) k)))) := by
  have h : k0_pay4 (F := Ideal) x
      = codeVec 18432 16384 (k0_pay1 x) (k0_pay2 x) broadcasts_S18432x1_S18432x16384 := by
    unfold k0_pay4 codeVec
    dsimp only
  rw [h, codeVec_apply, r_ext]
  exact congrArg (fun e => code (x j) (Ideal.exp2 (Ideal.ofBits .f32 0x00000000#32 - e))) (r_exp x (ix2 (j 0) 0))

/-- The scaled products: a row of codes with a column of weights, times the row's scale. -/
theorem r_acc (x : Vec Ideal S18432x16384 .bf16) (w : Vec Ideal S16384x13312 .fp8e4m3) (j : S18432x13312.Idx) :
    k0_pay5 (F := Ideal) x w j
      = (∑ k : Fin 16384, k0_pay4 (F := Ideal) x (ix2 (j 0) k) * w (ix2 k (j 1))) * k0_pay3 (F := Ideal) x (ix2 (j 0) 0) := by
  unfold k0_pay5
  generalize k0_pay4 (F := Ideal) x = c
  generalize k0_pay3 (F := Ideal) x = s
  pointwise

/-- The activation at a row and a column. -/
theorem r_h (a : FVec Ideal S18432x13312 .f32) (s : Vec Ideal S1x13312 .f32) (r : Fin 18432) (q : Fin 6656) :
    k0_pay6 (F := Ideal) a s (ix2 r q : S18432x6656.Idx)
      = (a (ix2 r ⟨q.val, by omega⟩) * s (ix2 0 ⟨q.val, by omega⟩))
          * Ideal.logistic (a (ix2 r ⟨q.val, by omega⟩) * s (ix2 0 ⟨q.val, by omega⟩))
          * (a (ix2 r ⟨6656 + q.val, by omega⟩) * s (ix2 0 ⟨6656 + q.val, by omega⟩)) := by
  unfold k0_pay6
  pointwise

/-- The exponents of the activation. -/
theorem r_hexp_eq (a : FVec Ideal S18432x13312 .f32) (s : Vec Ideal S1x13312 .f32) :
    k0_pay7 (F := Ideal) a s = expVec 18432 (shapeCast S18432x1 (multiReduction (F := Ideal) .maximumf [1] S18432
      (absf (k0_pay6 a s)) 0xFF800000#32 reduces_S18432x6656_S18432 (.inl rfl) rfl) shapeCasts_S18432_S18432x1) := by
  unfold k0_pay7 expVec
  dsimp only

/-- A row's exponent, of the activation. -/
theorem r_hexp (a : FVec Ideal S18432x13312 .f32) (s : Vec Ideal S1x13312 .f32) (j : S18432x1.Idx) :
    k0_pay7 (F := Ideal) a s j = rexp (amax fun q : Fin 6656 => k0_pay6 (F := Ideal) a s (ix2 (j 0) q)) := by
  rw [r_hexp_eq, expVec_apply]
  exact congrArg rexp (colmax 18432 6656 _ _ _ _ _ rfl _ j)

/-- A row's scale, of the activation. -/
theorem r_hscale (a : FVec Ideal S18432x13312 .f32) (s : Vec Ideal S1x13312 .f32) (j : S18432x1.Idx) :
    k0_pay8 (F := Ideal) a s j
      = Ideal.exp2 (rexp (amax fun q : Fin 6656 => k0_pay6 (F := Ideal) a s (ix2 (j 0) q))) := by
  have h : k0_pay8 (F := Ideal) a s = exp2 (k0_pay7 (F := Ideal) a s) := by
    unfold k0_pay8
    dsimp only
  rw [h, exp2_at, r_hexp]

/-- The codes of the activation. -/
theorem r_hcodes (a : FVec Ideal S18432x13312 .f32) (s : Vec Ideal S1x13312 .f32) (j : S18432x6656.Idx) :
    k0_pay9 (F := Ideal) a s j = code (k0_pay6 (F := Ideal) a s j) (Ideal.exp2 (Ideal.ofBits .f32 0x00000000#32
      - rexp (amax fun q : Fin 6656 => k0_pay6 (F := Ideal) a s (ix2 (j 0) q)))) := by
  have h : k0_pay9 (F := Ideal) a s
      = codeVec 18432 6656 (k0_pay6 a s) (k0_pay7 a s) broadcasts_S18432x1_S18432x6656 := by
    unfold k0_pay9 codeVec
    dsimp only
  rw [h, codeVec_apply]
  exact congrArg (fun e => code (k0_pay6 (F := Ideal) a s j) (Ideal.exp2 (Ideal.ofBits .f32 0x00000000#32 - e)))
    (r_hexp a s (ix2 (j 0) 0))

end Cert.ReferenceIdeal.V

end
-- ==== Proof.V.RVal.lean ====
/-
  The reference's four arrays: the codes and the scales of the input's rows, and those of the activation's.
-/
module

public import proofs.«01_k».proof.Proof.Gen.ReferenceIdeal.Frame
public import proofs.«01_k».proof.Proof.V.KArr0
public import proofs.«01_k».proof.Proof.V.KArr1
public import proofs.«01_k».proof.Proof.V.RPay
public import Idealize.ShloMosaic.Lib.Pipeline.ValueKit

@[expose] public section

set_option maxRecDepth 65536

noncomputable section

namespace Cert.ReferenceIdeal.V

open Cert.ReferenceIdeal Cert.ReferenceIdeal.Gen Idealize.ShloMosaic Idealize.ShloMosaic.TcCoe Cert.V
open Idealize.ShloMosaic.Pipeline (Dat)
open Cert.KernelIdeal.V (codes scales act hcodes hscales)

/-- The reference's codes of its input. -/
theorem codes_eq (x : Vec Ideal S18432x16384 .bf16) : k0_pay4 (F := Ideal) x = codes x := by
  funext j
  rw [r_codes, rinv_eq]
  unfold codes
  rfl

/-- The reference's scales of its input. -/
theorem scales_eq (x : Vec Ideal S18432x16384 .bf16) : k0_pay3 (F := Ideal) x = scales x := by
  funext j
  rw [r_scale, rscale_eq]
  unfold scales
  rfl

/-- The reference's activation. -/
theorem act_eq (x : Vec Ideal S18432x16384 .bf16) (w : Vec Ideal S16384x13312 .fp8e4m3) (s : Vec Ideal S1x13312 .f32)
    (r : Fin 18432) (q : Fin 6656) :
    k0_pay6 (F := Ideal) (k0_pay5 x w) s (ix2 r q : S18432x6656.Idx) = act (codes x) (scales x) w s r q := by
  rw [r_h, r_acc, r_acc, codes_eq, scales_eq]
  unfold act swi
  rfl

/-- The reference's scales of the activation. -/
theorem hscales_eq (x : Vec Ideal S18432x16384 .bf16) (w : Vec Ideal S16384x13312 .fp8e4m3) (s : Vec Ideal S1x13312 .f32) :
    k0_pay8 (F := Ideal) (k0_pay5 x w) s = hscales (act (codes x) (scales x) w s) := by
  funext j
  rw [r_hscale, rscale_eq]
  unfold hscales
  exact congrArg (fun f => scl (amax f)) (funext fun q => act_eq x w s (j 0) q)

/-- The reference's codes of the activation. -/
theorem hcodes_eq (x : Vec Ideal S18432x16384 .bf16) (w : Vec Ideal S16384x13312 .fp8e4m3) (s : Vec Ideal S1x13312 .f32) :
    k0_pay9 (F := Ideal) (k0_pay5 x w) s = hcodes (act (codes x) (scales x) w s) := by
  funext j
  rw [r_hcodes, rinv_eq]
  unfold hcodes
  have ej : j = ix2 (j 0) (j 1) := funext fun a => by match a with | ⟨0, _⟩ => rfl | ⟨1, _⟩ => rfl
  exact congrArg₂ (fun a f => code a (inv (amax f)))
    ((congrArg (k0_pay6 (F := Ideal) (k0_pay5 x w) s) ej).trans (act_eq x w s (j 0) (j 1)))
    (funext fun q => act_eq x w s (j 0) q)

theorem hz2 : (![0, 0] : Fin 2 → Nat) = fun _ => 0 := funext fun a => by fin_cases a <;> rfl

variable (x : Vec Ideal S18432x16384 .bf16) (w : Vec Ideal S16384x13312 .fp8e4m3) (s : Vec Ideal S1x13312 .f32)

theorem out0_3_eq : out0_3 (F := Ideal) x w s = hscales (act (codes x) (scales x) w s) := by
  unfold out0_3 k0_pay10
  rw [View.canon_unit_zero hz2, View.ld_unit_zero hz2, View.ld_unit_zero hz2, View.ld_unit_zero hz2, hscales_eq]

theorem out0_4_eq : out0_4 (F := Ideal) x w s = hcodes (act (codes x) (scales x) w s) := by
  unfold out0_4 k0_pay10
  rw [View.canon_unit_zero hz2, View.ld_unit_zero hz2, View.ld_unit_zero hz2, View.ld_unit_zero hz2, hcodes_eq]

theorem out0_5_eq : out0_5 (F := Ideal) x w s = codes x := by
  unfold out0_5
  rw [View.canon_unit_zero hz2, View.ld_unit_zero hz2, codes_eq]

theorem out0_6_eq : out0_6 (F := Ideal) x w s = scales x := by
  unfold out0_6
  rw [View.canon_unit_zero hz2, View.ld_unit_zero hz2, scales_eq]

variable (m : (ℓ : Loc nD τ sig) → Buf (Elt Ideal) ℓ)

theorem idx_0 : ∀ t : Fin cfg0.N, (cfg0.win 0).index t = ![0, 0] := by decide +kernel
theorem idx_1 : ∀ t : Fin cfg0.N, (cfg0.win 1).index t = ![0, 0] := by decide +kernel
theorem idx_2 : ∀ t : Fin cfg0.N, (cfg0.win 2).index t = ![0, 0] := by decide +kernel
theorem idx_3 : ∀ t : Fin cfg0.N, (cfg0.win 3).index t = ![0, 0] := by decide +kernel
theorem idx_4 : ∀ t : Fin cfg0.N, (cfg0.win 4).index t = ![0, 0] := by decide +kernel
theorem idx_5 : ∀ t : Fin cfg0.N, (cfg0.win 5).index t = ![0, 0] := by decide +kernel
theorem idx_6 : ∀ t : Fin cfg0.N, (cfg0.win 6).index t = ![0, 0] := by decide +kernel

/-! Each window's one block is its whole array. -/

theorem whole_0 (c : Dev nD) (t : Fin cfg0.N) : iblk m c 0 t = (V m c main_v0 : S18432x16384.Idx → EReal) := by
  funext y
  generalize hX : V m c main_v0 = X
  have h0 : ((((cfg0.win 0).blk t).view.emb y) 0 : ℕ) = (y 0).val := by blk_simp [idx_0 t]
  have h1 : ((((cfg0.win 0).blk t).view.emb y) 1 : ℕ) = (y 1).val := by blk_simp [idx_0 t]
  unfold iblk
  refine (congrArg (V m c main_v0) (?_ : ((cfg0.win 0).blk t).view.emb y = y)).trans (congrFun hX y)
  funext a
  match a with
  | ⟨0, _⟩ => exact Fin.ext h0
  | ⟨1, _⟩ => exact Fin.ext h1

theorem whole_1 (c : Dev nD) (t : Fin cfg0.N) : iblk m c 1 t = (V m c main_arg1 : S16384x13312.Idx → EReal) := by
  funext y
  generalize hX : V m c main_arg1 = X
  have h0 : ((((cfg0.win 1).blk t).view.emb y) 0 : ℕ) = (y 0).val := by blk_simp [idx_1 t]
  have h1 : ((((cfg0.win 1).blk t).view.emb y) 1 : ℕ) = (y 1).val := by blk_simp [idx_1 t]
  unfold iblk
  refine (congrArg (V m c main_arg1) (?_ : ((cfg0.win 1).blk t).view.emb y = y)).trans (congrFun hX y)
  funext a
  match a with
  | ⟨0, _⟩ => exact Fin.ext h0
  | ⟨1, _⟩ => exact Fin.ext h1

theorem whole_2 (c : Dev nD) (t : Fin cfg0.N) : iblk m c 2 t = (V m c main_v1 : S1x13312.Idx → EReal) := by
  funext y
  generalize hX : V m c main_v1 = X
  have h0 : ((((cfg0.win 2).blk t).view.emb y) 0 : ℕ) = (y 0).val := by blk_simp [idx_2 t]
  have h1 : ((((cfg0.win 2).blk t).view.emb y) 1 : ℕ) = (y 1).val := by blk_simp [idx_2 t]
  unfold iblk
  refine (congrArg (V m c main_v1) (?_ : ((cfg0.win 2).blk t).view.emb y = y)).trans (congrFun hX y)
  funext a
  match a with
  | ⟨0, _⟩ => exact Fin.ext h0
  | ⟨1, _⟩ => exact Fin.ext h1

/-- The activation, from the arrays the call is entered with. -/
def actR (c : Dev nD) : Fin 18432 → Fin 6656 → EReal :=
  act (codes (V m c main_v0)) (scales (V m c main_v0)) (V m c main_arg1) (V m c main_v1)

/-! The four arrays after the call. -/

theorem arr_3 (c : Dev nD) : (dats m 0 c).arrAt 3 cfg0.N = hscales (actR m c) := by
  refine (dats m 0 c).arrAt_eq_of_covers 3 _ (by decide +kernel) fun t hf y => ?_
  have h0 : ((((cfg0.win 3).blk t).view.emb y) 0 : ℕ) = (y 0).val := by blk_simp [idx_3 t]
  have h1 : ((((cfg0.win 3).blk t).view.emb y) 1 : ℕ) = (y 1).val := by blk_simp [idx_3 t]
  generalize ((cfg0.win 3).blk t).view.emb y = i at h0 h1
  have e : i = y := funext fun a => by
    match a with
    | ⟨0, _⟩ => exact Fin.ext h0
    | ⟨1, _⟩ => exact Fin.ext h1
  subst e
  blk_simp
  rw [after0_3, whole_0, whole_1, whole_2, out0_3_eq]
  rfl

theorem arr_4 (c : Dev nD) : (dats m 0 c).arrAt 4 cfg0.N = hcodes (actR m c) := by
  refine (dats m 0 c).arrAt_eq_of_covers 4 _ (by decide +kernel) fun t hf y => ?_
  have h0 : ((((cfg0.win 4).blk t).view.emb y) 0 : ℕ) = (y 0).val := by blk_simp [idx_4 t]
  have h1 : ((((cfg0.win 4).blk t).view.emb y) 1 : ℕ) = (y 1).val := by blk_simp [idx_4 t]
  generalize ((cfg0.win 4).blk t).view.emb y = i at h0 h1
  have e : i = y := funext fun a => by
    match a with
    | ⟨0, _⟩ => exact Fin.ext h0
    | ⟨1, _⟩ => exact Fin.ext h1
  subst e
  blk_simp
  rw [after0_4, whole_0, whole_1, whole_2, out0_4_eq]
  rfl

theorem arr_5 (c : Dev nD) : (dats m 0 c).arrAt 5 cfg0.N = codes (V m c main_v0) := by
  refine (dats m 0 c).arrAt_eq_of_covers 5 _ (by decide +kernel) fun t hf y => ?_
  have h0 : ((((cfg0.win 5).blk t).view.emb y) 0 : ℕ) = (y 0).val := by blk_simp [idx_5 t]
  have h1 : ((((cfg0.win 5).blk t).view.emb y) 1 : ℕ) = (y 1).val := by blk_simp [idx_5 t]
  generalize ((cfg0.win 5).blk t).view.emb y = i at h0 h1
  have e : i = y := funext fun a => by
    match a with
    | ⟨0, _⟩ => exact Fin.ext h0
    | ⟨1, _⟩ => exact Fin.ext h1
  subst e
  blk_simp
  rw [after0_5, whole_0, whole_1, whole_2, out0_5_eq]

theorem arr_6 (c : Dev nD) : (dats m 0 c).arrAt 6 cfg0.N = scales (V m c main_v0) := by
  refine (dats m 0 c).arrAt_eq_of_covers 6 _ (by decide +kernel) fun t hf y => ?_
  have h0 : ((((cfg0.win 6).blk t).view.emb y) 0 : ℕ) = (y 0).val := by blk_simp [idx_6 t]
  have h1 : ((((cfg0.win 6).blk t).view.emb y) 1 : ℕ) = (y 1).val := by blk_simp [idx_6 t]
  generalize ((cfg0.win 6).blk t).view.emb y = i at h0 h1
  have e : i = y := funext fun a => by
    match a with
    | ⟨0, _⟩ => exact Fin.ext h0
    | ⟨1, _⟩ => exact Fin.ext h1
  subst e
  blk_simp
  rw [after0_6, whole_0, whole_1, whole_2, out0_6_eq]

end Cert.ReferenceIdeal.V

end
-- ==== Proof.V.RRes.lean ====
/-
  The reference's run read at its results: the same functions of the arguments as the kernel's.
-/
module

public import proofs.«01_k».proof.Proof.V.KRes
public import proofs.«01_k».proof.Proof.V.RVal

@[expose] public section

set_option maxRecDepth 65536

noncomputable section

namespace Cert.ReferenceIdeal.V

open Cert.ReferenceIdeal Cert.ReferenceIdeal.Gen Idealize.ShloMosaic Idealize.ShloMosaic.TcCoe Cert.V
open Idealize.ShloMosaic.Pipeline (Dat)
open Cert.KernelIdeal.V (codes scales act hcodes hscales rowsOf rowOf actOf res0 res1 res2 res3)

variable (m : (ℓ : Loc nD τ sig) → Buf (Elt Ideal) ℓ) (c : Dev nD)

/-- The three arguments as launched. -/
abbrev a0 : Vec Ideal S3x6144x16384 .bf16 := m ((c : Thread nD τ).loc main_arg0)
abbrev a1 : Vec Ideal S16384x13312 .fp8e4m3 := m ((c : Thread nD τ).loc main_arg1)
abbrev a2 : Vec Ideal S13312 .f32 := m ((c : Thread nD τ).loc main_arg2)

theorem V_v0 : V m c main_v0 = rowsOf (a0 m c) := by
  unfold V V0 rowsOf
  simp only [List.flatten_cons, List.flatten_nil, List.append_nil]
  after_results
  rfl

theorem V_v1 : V m c main_v1 = rowOf (a2 m c) := by
  unfold V V0 rowOf
  simp only [List.flatten_cons, List.flatten_nil, List.append_nil]
  after_results
  rfl

theorem actR_eq : actR m c = actOf (a0 m c) (a1 m c) (a2 m c) := by
  unfold actR actOf
  rw [V_v0, V_v1, V_main_arg1]

/-- The buffers after the call. -/
abbrev Wc : Valuation τ sig (Elt Ideal) := Pipeline.withArrays spec0 c (V0 m c) fun w => (dats m 0 c).arrAt w cfg0.N

theorem Wc_3 : Wc m c (Proc.devRef .tc main_v2_0) = hscales (actOf (a0 m c) (a1 m c) (a2 m c)) := by
  refine (Pipeline.withArrays_arr spec0 launch0.win.arr_inj c _ _ 3).trans ((arr_3 m c).trans ?_)
  rw [actR_eq]

theorem Wc_4 : Wc m c (Proc.devRef .tc main_v2_1) = hcodes (actOf (a0 m c) (a1 m c) (a2 m c)) := by
  refine (Pipeline.withArrays_arr spec0 launch0.win.arr_inj c _ _ 4).trans ((arr_4 m c).trans ?_)
  rw [actR_eq]

theorem Wc_5 : Wc m c (Proc.devRef .tc main_v2_2) = codes (rowsOf (a0 m c)) := by
  refine (Pipeline.withArrays_arr spec0 launch0.win.arr_inj c _ _ 5).trans ((arr_5 m c).trans ?_)
  rw [V_v0]

theorem Wc_6 : Wc m c (Proc.devRef .tc main_v2_3) = scales (rowsOf (a0 m c)) := by
  refine (Pipeline.withArrays_arr spec0 launch0.win.arr_inj c _ _ 6).trans ((arr_6 m c).trans ?_)
  rw [V_v0]

/-- A result buffer at the end, from the buffers after the call. -/
theorem tail_eq (b : Ref sig .tc) : Pipeline.afterTail₀ cfgs (dats m) 0 (V0 m) [hostOps1] c b
    = StableHlo.after hostOps1 (Wc m c) (Proc.devRef .tc b) := by
  unfold Pipeline.afterTail₀
  simp only [List.flatten_cons, List.flatten_nil, List.append_nil]

theorem end_v3 : Pipeline.afterTail₀ cfgs (dats m) 0 (V0 m) [hostOps1] c main_v3 = res0 (a0 m c) (a1 m c) (a2 m c) := by
  rw [tail_eq]
  have h := Wc_3 m c
  unfold res0
  generalize Wc m c = w at h
  after_results
  rw [h]
  rfl

theorem end_v4 : Pipeline.afterTail₀ cfgs (dats m) 0 (V0 m) [hostOps1] c main_v4 = res1 (a0 m c) (a1 m c) (a2 m c) := by
  rw [tail_eq]
  have h := Wc_4 m c
  unfold res1
  generalize Wc m c = w at h
  after_results
  rw [h]
  rfl

theorem end_v5 : Pipeline.afterTail₀ cfgs (dats m) 0 (V0 m) [hostOps1] c main_v5 = res2 (a0 m c) := by
  rw [tail_eq]
  have h := Wc_5 m c
  unfold res2
  generalize Wc m c = w at h
  after_results
  rw [h]
  rfl

theorem end_v6 : Pipeline.afterTail₀ cfgs (dats m) 0 (V0 m) [hostOps1] c main_v6 = res3 (a0 m c) := by
  rw [tail_eq]
  have h := Wc_6 m c
  unfold res3
  generalize Wc m c = w at h
  after_results
  rw [h]
  rfl

end Cert.ReferenceIdeal.V

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Run
public import proofs.«01_k».proof.Proof.KI.Run
public import proofs.«01_k».proof.Proof.V.KRes
public import proofs.«01_k».proof.Proof.V.RRes
public import Idealize.ShloMosaic.Adequacy
public import Idealize.ShloMosaic.Init

@[expose] public section

noncomputable section

namespace Cert.Proof

open Idealize.ShloMosaic Idealize.SL.Sem

/-- From equal arguments the kernel and the reference end with equal results: both runs' four result arrays are the same
    functions of the three arguments. -/
theorem algebraic : Cert.algebraic_KernelIdeal_ReferenceIdeal
    (hKernelIdeal := Cert.KernelIdeal.Gen.facts) (hReferenceIdeal := Cert.ReferenceIdeal.Gen.facts) := by
  intro m ρ m' ρ' _ hagree
  have h0 (c : Dev Cert.KernelIdeal.nD) : Cert.ReferenceIdeal.V.a0 m' c = Cert.KernelIdeal.V.a0 m c := (hagree c).1
  have h1 (c : Dev Cert.KernelIdeal.nD) : Cert.ReferenceIdeal.V.a1 m' c = Cert.KernelIdeal.V.a1 m c := (hagree c).2.1
  have h2 (c : Dev Cert.KernelIdeal.nD) : Cert.ReferenceIdeal.V.a2 m' c = Cert.KernelIdeal.V.a2 m c := (hagree c).2.2
  refine ⟨fun c => Cert.KernelIdeal.V.res0 (Cert.KernelIdeal.V.a0 m c) (Cert.KernelIdeal.V.a1 m c) (Cert.KernelIdeal.V.a2 m c),
    fun c => Cert.KernelIdeal.V.res1 (Cert.KernelIdeal.V.a0 m c) (Cert.KernelIdeal.V.a1 m c) (Cert.KernelIdeal.V.a2 m c),
    fun c => Cert.KernelIdeal.V.res2 (Cert.KernelIdeal.V.a0 m c),
    fun c => Cert.KernelIdeal.V.res3 (Cert.KernelIdeal.V.a0 m c), ?_, ?_⟩
  · exact (θ_run Cert.KernelIdeal.defs _ _).mono (fun r h c =>
      ⟨(h.1 c _ (Cert.KernelIdeal.Run.mem_uc Cert.KernelIdeal.main_v4 (by decide))).trans (Cert.KernelIdeal.V.W5_v4 m ρ c),
       (h.1 c _ (Cert.KernelIdeal.Run.mem_uc Cert.KernelIdeal.main_v5 (by decide))).trans (Cert.KernelIdeal.V.W5_v5 m ρ c),
       (h.1 c _ (Cert.KernelIdeal.Run.mem_uc Cert.KernelIdeal.main_v6 (by decide))).trans (Cert.KernelIdeal.V.W5_v6 m ρ c),
       (h.1 c _ (Cert.KernelIdeal.Run.mem_uc Cert.KernelIdeal.main_v7 (by decide))).trans (Cert.KernelIdeal.V.W5_v7 m ρ c),
       (h.1 c _ (Cert.KernelIdeal.Run.mem_uc Cert.KernelIdeal.main_arg0 (by decide))).trans (Cert.KernelIdeal.Run.W5_main_arg0 m ρ c),
       (h.1 c _ (Cert.KernelIdeal.Run.mem_uc Cert.KernelIdeal.main_arg1 (by decide))).trans (Cert.KernelIdeal.Run.W5_main_arg1 m ρ c),
       (h.1 c _ (Cert.KernelIdeal.Run.mem_uc Cert.KernelIdeal.main_arg2 (by decide))).trans (Cert.KernelIdeal.Run.W5_main_arg2 m ρ c)⟩)
      (Cert.KernelIdeal.Run.run (F := Ideal) m ρ)
  · exact (θ_run Cert.ReferenceIdeal.defs _ _).mono (fun r h c =>
      ⟨(((h.1 c).2 Cert.ReferenceIdeal.main_v3 (Pipeline.mem_restRefs_of Cert.ReferenceIdeal.main_v3 (by decide) (by decide))).trans
          (Cert.ReferenceIdeal.V.end_v3 m' c)).trans (by rw [h0, h1, h2]),
       (((h.1 c).2 Cert.ReferenceIdeal.main_v4 (Pipeline.mem_restRefs_of Cert.ReferenceIdeal.main_v4 (by decide) (by decide))).trans
          (Cert.ReferenceIdeal.V.end_v4 m' c)).trans (by rw [h0, h1, h2]),
       (((h.1 c).2 Cert.ReferenceIdeal.main_v5 (Pipeline.mem_restRefs_of Cert.ReferenceIdeal.main_v5 (by decide) (by decide))).trans
          (Cert.ReferenceIdeal.V.end_v5 m' c)).trans (by rw [h0]),
       (((h.1 c).2 Cert.ReferenceIdeal.main_v6 (Pipeline.mem_restRefs_of Cert.ReferenceIdeal.main_v6 (by decide) (by decide))).trans
          (Cert.ReferenceIdeal.V.end_v6 m' c)).trans (by rw [h0]),
       (h.2 c).1, (h.2 c).2.1, (h.2 c).2.2⟩)
      (θ_run_and (Cert.ReferenceIdeal.Gen.run_main (F := Ideal) m' ρ') (Cert.ReferenceIdeal.Gen.unchanged (F := Ideal) m' ρ'))

/-- Everything the certificate claims. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
